-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_first_result [hKernelIdeal : Cert.KernelIdeal.Facts] [hReferenceIdeal : Cert.ReferenceIdeal.Facts] [hOn_first_result : Cert.On_first_result.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 8192, 11520]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v3_0) i = v0 c i)
          ∧ (∀ i : (⟨4, ![3, 120, 96, 128]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v3_1) i = v1 c i)
          ∧ (∀ i : (⟨3, ![3, 120, 96]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.KernelIdeal.nD Cert.KernelIdeal.τ).loc Cert.KernelIdeal.main_v3_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 8192, 11520]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v33) i = v0 c i)
          ∧ (∀ i : (⟨4, ![3, 120, 96, 128]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v11_1) i = v1 c i)
          ∧ (∀ i : (⟨3, ![3, 120, 96]⟩ : Shape).Idx, (Cert.On_first_result.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.ReferenceIdeal.nD Cert.ReferenceIdeal.τ).loc Cert.ReferenceIdeal.main_v11_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_first_result : Cert.On_first_result.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_first_result (hKernelIdeal := hKernelIdeal) (hReferenceIdeal := hReferenceIdeal) (hOn_first_result := hOn_first_result)
-- ==== On_first_result.lean ====
abbrev S3x8192x11520 : Shape := ⟨3, ![3, 8192, 11520]⟩
abbrev S3x8192x8x128 : Shape := ⟨4, ![3, 8192, 8, 128]⟩
abbrev S3x8192x120 : Shape := ⟨3, ![3, 8192, 120]⟩
abbrev S120 : Shape := ⟨1, ![120]⟩
abbrev S3x120x96x128 : Shape := ⟨4, ![3, 120, 96, 128]⟩
abbrev S3x120x96 : Shape := ⟨3, ![3, 120, 96]⟩
abbrev S3 : Shape := ⟨1, ![3]⟩
abbrev S_ : Shape := ⟨0, ![]⟩

class Facts : Prop where
  bcast_S_S3x8192x11520 : S_.BroadcastsInDim S3x8192x11520 (![] : Fin 0 → Fin S3x8192x11520.rank)
  bcast_S_S3x120x96x128 : S_.BroadcastsInDim S3x120x96x128 (![] : Fin 0 → Fin S3x120x96x128.rank)
  bcast_S_S3x120x96 : S_.BroadcastsInDim S3x120x96 (![] : Fin 0 → Fin S3x120x96.rank)

variable [Facts]

def fn {F : FTy → Type} [FloatOps F] (main_arg0 : FVec F S3x8192x11520 .bf16) (main_arg1 : FVec F S3x8192x8x128 .bf16) (main_arg2 : FVec F S3x8192x120 .f32) (main_arg3 : FVec F S120 .f32) (main_arg4 : FVec F S3x120x96x128 .fp8e4m3) (main_arg5 : FVec F S3x120x96 .f32) (main_arg6 : FVec F S3x120x96x128 .f32) (main_arg7 : IVec S3 32) : IVec S3x8192x11520 1 × IVec S3x120x96x128 1 × IVec S3x120x96 1 :=
  let main_c : IVec S_ 1 := constantI S_ 1 1#1
  let main_v0 : IVec S3x8192x11520 1 := broadcastInDim S3x8192x11520 ![] bcast_S_S3x8192x11520 main_c
  let main_c_0 : IVec S_ 1 := constantI S_ 1 0#1
  let main_v1 : IVec S3x120x96x128 1 := broadcastInDim S3x120x96x128 ![] bcast_S_S3x120x96x128 main_c_0
  let main_c_1 : IVec S_ 1 := constantI S_ 1 0#1
  let main_v2 : IVec S3x120x96 1 := broadcastInDim S3x120x96 ![] bcast_S_S3x120x96 main_c_1
  (main_v0, main_v1, main_v2)
-- ==== Kernel.lean ====
abbrev S3x8192x11520 : Shape := ⟨3, ![3, 8192, 11520]⟩
abbrev S3x8192x8x128 : Shape := ⟨4, ![3, 8192, 8, 128]⟩
abbrev S3x8192x120 : Shape := ⟨3, ![3, 8192, 120]⟩
abbrev S120 : Shape := ⟨1, ![120]⟩
abbrev S3x120x96x128 : Shape := ⟨4, ![3, 120, 96, 128]⟩
abbrev S3x120x96 : Shape := ⟨3, ![3, 120, 96]⟩
abbrev S3 : Shape := ⟨1, ![3]⟩
abbrev S3x8192x1024 : Shape := ⟨3, ![3, 8192, 1024]⟩
abbrev S1x120 : Shape := ⟨2, ![1, 120]⟩
abbrev S3x11520x128 : Shape := ⟨3, ![3, 11520, 128]⟩
abbrev S1x256x11520 : Shape := ⟨3, ![1, 256, 11520]⟩
abbrev S1x256x1024 : Shape := ⟨3, ![1, 256, 1024]⟩
abbrev S1 : Shape := ⟨1, ![1]⟩
abbrev S1x256x120 : Shape := ⟨3, ![1, 256, 120]⟩
abbrev S1x11520x128 : Shape := ⟨3, ![1, 11520, 128]⟩
abbrev S1x120x96 : Shape := ⟨3, ![1, 120, 96]⟩
abbrev S1x24x96x128 : Shape := ⟨4, ![1, 24, 96, 128]⟩
abbrev S1x24x96 : Shape := ⟨3, ![1, 24, 96]⟩
abbrev S11520x128 : Shape := ⟨2, ![11520, 128]⟩
abbrev S7x256x256 : Shape := ⟨3, ![7, 256, 256]⟩
abbrev S3x32x128 : Shape := ⟨3, ![3, 32, 128]⟩
abbrev S1x128 : Shape := ⟨2, ![1, 128]⟩
abbrev S8x128 : Shape := ⟨2, ![8, 128]⟩
abbrev S256x128 : Shape := ⟨2, ![256, 128]⟩
abbrev S1x30x96 : Shape := ⟨3, ![1, 30, 96]⟩
abbrev S30x96 : Shape := ⟨2, ![30, 96]⟩
abbrev S30x32 : Shape := ⟨2, ![30, 32]⟩
abbrev S30x128 : Shape := ⟨2, ![30, 128]⟩
abbrev S1x30x128 : Shape := ⟨3, ![1, 30, 128]⟩
abbrev S30x64 : Shape := ⟨2, ![30, 64]⟩
abbrev S1x256x128 : Shape := ⟨3, ![1, 256, 128]⟩
abbrev S256x8 : Shape := ⟨2, ![256, 8]⟩
abbrev S256x120 : Shape := ⟨2, ![256, 120]⟩
abbrev S32x8x128 : Shape := ⟨3, ![32, 8, 128]⟩
abbrev S1x8x128 : Shape := ⟨3, ![1, 8, 128]⟩
abbrev S256x256 : Shape := ⟨2, ![256, 256]⟩
abbrev S256x128x1 : Shape := ⟨3, ![256, 128, 1]⟩
abbrev S1x1x128 : Shape := ⟨3, ![1, 1, 128]⟩
abbrev S1x256x256 : Shape := ⟨3, ![1, 256, 256]⟩
abbrev S8x128x1 : Shape := ⟨3, ![8, 128, 1]⟩
abbrev S1x1x96 : Shape := ⟨3, ![1, 1, 96]⟩
abbrev S96 : Shape := ⟨1, ![96]⟩
abbrev S96x1 : Shape := ⟨2, ![96, 1]⟩
abbrev S1x1x96x128 : Shape := ⟨4, ![1, 1, 96, 128]⟩
abbrev S96x128 : Shape := ⟨2, ![96, 128]⟩
abbrev S96x256 : Shape := ⟨2, ![96, 256]⟩

abbrev nBuf : Space → Nat
  | .hbm => 13
  | .vmem => 29
  | .smem => 1
  | _ => 0

abbrev bufTy : (tb : Table) → Fin (tcTables nBuf tb) → BufTy
  | .hbm, ⟨0, _⟩ => ⟨S3x8192x11520, .bf16⟩
  | .hbm, ⟨1, _⟩ => ⟨S3x8192x8x128, .bf16⟩
  | .hbm, ⟨2, _⟩ => ⟨S3x8192x120, .f32⟩
  | .hbm, ⟨3, _⟩ => ⟨S120, .f32⟩
  | .hbm, ⟨4, _⟩ => ⟨S3x120x96x128, .fp8e4m3⟩
  | .hbm, ⟨5, _⟩ => ⟨S3x120x96, .f32⟩
  | .hbm, ⟨6, _⟩ => ⟨S3x120x96x128, .f32⟩
  | .hbm, ⟨7, _⟩ => ⟨S3x8192x1024, .bf16⟩
  | .hbm, ⟨8, _⟩ => ⟨S1x120, .f32⟩
  | .hbm, ⟨9, _⟩ => ⟨S3x11520x128, .fp8e4m3⟩
  | .hbm, ⟨10, _⟩ => ⟨S3x8192x11520, .bf16⟩
  | .hbm, ⟨11, _⟩ => ⟨S3x120x96x128, .fp8e4m3⟩
  | .hbm, ⟨12, _⟩ => ⟨S3x120x96, .f32⟩
  | .local _ .vmem, ⟨0, _⟩ => ⟨S1x256x11520, .bf16⟩
  | .local _ .vmem, ⟨1, _⟩ => ⟨S1x256x11520, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x120, .f32⟩
  | .local _ .vmem, ⟨5, _⟩ => ⟨S1x256x120, .f32⟩
  | .local _ .vmem, ⟨6, _⟩ => ⟨S1x120, .f32⟩
  | .local _ .vmem, ⟨7, _⟩ => ⟨S1x11520x128, .fp8e4m3⟩
  | .local _ .vmem, ⟨8, _⟩ => ⟨S1x11520x128, .fp8e4m3⟩
  | .local _ .vmem, ⟨9, _⟩ => ⟨S1x120x96, .f32⟩
  | .local _ .vmem, ⟨10, _⟩ => ⟨S1x120x96, .f32⟩
  | .local _ .vmem, ⟨11, _⟩ => ⟨S1x24x96x128, .fp8e4m3⟩
  | .local _ .vmem, ⟨12, _⟩ => ⟨S1x24x96x128, .fp8e4m3⟩
  | .local _ .vmem, ⟨13, _⟩ => ⟨S1x24x96, .f32⟩
  | .local _ .vmem, ⟨14, _⟩ => ⟨S1x24x96, .f32⟩
  | .local _ .vmem, ⟨15, _⟩ => ⟨S1x24x96x128, .f32⟩
  | .local _ .vmem, ⟨16, _⟩ => ⟨S1x24x96x128, .f32⟩
  | .local _ .vmem, ⟨17, _⟩ => ⟨S1x256x11520, .bf16⟩
  | .local _ .vmem, ⟨18, _⟩ => ⟨S1x256x11520, .bf16⟩
  | .local _ .vmem, ⟨19, _⟩ => ⟨S1x24x96x128, .fp8e4m3⟩
  | .local _ .vmem, ⟨20, _⟩ => ⟨S1x24x96x128, .fp8e4m3⟩
  | .local _ .vmem, ⟨21, _⟩ => ⟨S1x24x96, .f32⟩
  | .local _ .vmem, ⟨22, _⟩ => ⟨S1x24x96, .f32⟩
  | .local _ .vmem, ⟨23, _⟩ => ⟨S11520x128, .bf16⟩
  | .local _ .vmem, ⟨24, _⟩ => ⟨S7x256x256, .bf16⟩
  | .local _ .vmem, ⟨25, _⟩ => ⟨S3x32x128, .f32⟩
  | .local _ .vmem, ⟨26, _⟩ => ⟨S1x128, .f32⟩
  | .local _ .vmem, ⟨27, _⟩ => ⟨S8x128, .f32⟩
  | .local _ .vmem, ⟨28, _⟩ => ⟨S256x128, .f32⟩
  | .local _ .smem, ⟨0, _⟩ => ⟨S3, .i32⟩
  | _, _ => ⟨S3x8192x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![101], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c95_i32 : BitVec 32 := 95#32
  let v0 : BitVec 32 := Scalar.minsi arg0 c95_i32
  let c32_i32 : BitVec 32 := 32#32
  let v1 : BitVec 32 := Scalar.divsi v0 c32_i32
  let v4 : Index := Scalar.indexCast v1
  ![v4.toNat]
def k0_off2 (i : grid0.Coords) : Fin 1 → Nat :=
  let arg0 : BitVec 32 := BitVec.ofNat 32 (i 0).val
  let c32_i32 : BitVec 32 := 32#32
  let v1 : BitVec 32 := Scalar.divsi arg0 c32_i32
  let c2_i32 : BitVec 32 := 2#32
  let v2 : BitVec 32 := Scalar.minsi v1 c2_i32
  let v5 : Index := Scalar.indexCast v2
  ![v5.toNat]
def k0_cond5 (i : grid0.Coords) : BitVec 1 :=
  let arg0 : BitVec 32 := BitVec.ofNat 32 (i 0).val
  let c32_i32_6 : BitVec 32 := 32#32
  let v26 : BitVec 1 := Scalar.cmpi .sge arg0 c32_i32_6
  let c32_i32_5 : BitVec 32 := 32#32
  let v24 : BitVec 32 := Scalar.divsi arg0 c32_i32_5
  let c1_i32 : BitVec 32 := 1#32
  let v25 : BitVec 32 := Scalar.subi v24 c1_i32
  let c1_i32_7 : BitVec 32 := 1#32
  let v27 : BitVec 32 := Scalar.addi v25 c1_i32_7
  let c32_i32_8 : BitVec 32 := 32#32
  let v28 : BitVec 32 := Scalar.muli v27 c32_i32_8
  let v29 : BitVec 32 := Scalar.subi arg0 v28
  let c5_i32 : BitVec 32 := 5#32
  let v30 : BitVec 1 := Scalar.cmpi .slt v29 c5_i32
  let v31 : BitVec 1 := Scalar.andi v26 v30
  let v32 : BitVec 32 := Scalar.extui v31
  let c0_i32_9 : BitVec 32 := 0#32
  let v33 : BitVec 1 := Scalar.cmpi .ne v32 c0_i32_9
  v33

def k0_off3 (i : grid0.Coords) : Fin 1 → Nat :=
  let arg0 : BitVec 32 := BitVec.ofNat 32 (i 0).val
  let c32_i32_5 : BitVec 32 := 32#32
  let v24 : BitVec 32 := Scalar.divsi arg0 c32_i32_5
  let c1_i32 : BitVec 32 := 1#32
  let v25 : BitVec 32 := Scalar.subi v24 c1_i32
  let v37 : Index := Scalar.indexCast v25
  ![v37.toNat]
def k0_cond2 (i : grid0.Coords) (v6 : BitVec 32) : BitVec 1 :=
  let arg0 : BitVec 32 := BitVec.ofNat 32 (i 0).val
  let c96_i32 : BitVec 32 := 96#32
  let v0 : BitVec 1 := Scalar.cmpi .slt arg0 c96_i32
  let c32_i32 : BitVec 32 := 32#32
  let v1 : BitVec 32 := Scalar.divsi arg0 c32_i32
  let c2_i32 : BitVec 32 := 2#32
  let v2 : BitVec 32 := Scalar.minsi v1 c2_i32
  let c32_i32_0 : BitVec 32 := 32#32
  let v3 : BitVec 32 := Scalar.muli v2 c32_i32_0
  let v4 : BitVec 32 := Scalar.subi arg0 v3
  let c256_i32 : BitVec 32 := 256#32
  let v11 : BitVec 32 := Scalar.muli v4 c256_i32
  let v12 : BitVec 1 := Scalar.cmpi .slt v11 v6
  let v13 : BitVec 1 := Scalar.andi v0 v12
  let v14 : BitVec 32 := Scalar.extui v13
  let c0_i32_2 : BitVec 32 := 0#32
  let v15 : BitVec 1 := Scalar.cmpi .ne v14 c0_i32_2
  v15

def k0_cond3 (i : grid0.Coords) (v6 : BitVec 32) : BitVec 1 :=
  let arg0 : BitVec 32 := BitVec.ofNat 32 (i 0).val
  let c96_i32 : BitVec 32 := 96#32
  let v0 : BitVec 1 := Scalar.cmpi .slt arg0 c96_i32
  let c32_i32 : BitVec 32 := 32#32
  let v1 : BitVec 32 := Scalar.divsi arg0 c32_i32
  let c2_i32 : BitVec 32 := 2#32
  let v2 : BitVec 32 := Scalar.minsi v1 c2_i32
  let c32_i32_0 : BitVec 32 := 32#32
  let v3 : BitVec 32 := Scalar.muli v2 c32_i32_0
  let v4 : BitVec 32 := Scalar.subi arg0 v3
  let c256_i32 : BitVec 32 := 256#32
  let v11 : BitVec 32 := Scalar.muli v4 c256_i32
  let v12 : BitVec 1 := Scalar.cmpi .slt v11 v6
  let v13 : BitVec 1 := Scalar.andi v0 v12
  let v_true : BitVec 1 := 1#1
  let v16 : BitVec 1 := Scalar.xori v13 v_true
  let v17 : BitVec 1 := Scalar.andi v0 v16
  let v18 : BitVec 32 := Scalar.extui v17
  let c0_i32_3 : BitVec 32 := 0#32
  let v19 : BitVec 1 := Scalar.cmpi .ne v18 c0_i32_3
  v19

def cc0_transform_0 (i : grid0.Coords) : Fin 3 → Nat :=
  let arg0 : BitVec 32 := BitVec.ofNat 32 (i 0).val
  let c95_i32 : BitVec 32 := 95#32
  let v0 : BitVec 32 := Scalar.minsi arg0 c95_i32
  let c32_i32 : BitVec 32 := 32#32
  let v1 : BitVec 32 := Scalar.divsi v0 c32_i32
  let c32_i32_0 : BitVec 32 := 32#32
  let v2 : BitVec 32 := Scalar.muli v1 c32_i32_0
  let v3 : BitVec 32 := Scalar.subi v0 v2
  let c0_i32 : BitVec 32 := 0#32
  let c0_i32_1 : BitVec 32 := 0#32
  ![v1.toNat, v3.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let c95_i32 : BitVec 32 := 95#32
  let v0 : BitVec 32 := Scalar.minsi arg0 c95_i32
  let c32_i32 : BitVec 32 := 32#32
  let v1 : BitVec 32 := Scalar.divsi v0 c32_i32
  let c32_i32_0 : BitVec 32 := 32#32
  let v2 : BitVec 32 := Scalar.muli v1 c32_i32_0
  let v3 : BitVec 32 := Scalar.subi v0 v2
  let v4 : Index := Scalar.indexCast v1
  let v5 : BitVec 32 := pf.at 0 (Rect.unit (s := S3) ![v4.toNat] S1.size (k0_off1_inb i)) numel1_S1
  let c1_i32 : BitVec 32 := 1#32
  let c8192_i32 : BitVec 32 := 8192#32
  let v6 : BitVec 32 := Scalar.maxsi c1_i32 v5
  let v7 : BitVec 32 := Scalar.minsi c8192_i32 v6
  let c1_i32_1 : BitVec 32 := 1#32
  let v8 : BitVec 32 := Scalar.subi v7 c1_i32_1
  let c256_i32 : BitVec 32 := 256#32
  let v9 : BitVec 32 := Scalar.divsi v8 c256_i32
  let v10 : BitVec 32 := Scalar.minsi v3 v9
  let c0_i32 : BitVec 32 := 0#32
  let c0_i32_2 : BitVec 32 := 0#32
  ![v1.toNat, v10.toNat, c0_i32.toNat]

def cc0_transform_2 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let c95_i32 : BitVec 32 := 95#32
  let v0 : BitVec 32 := Scalar.minsi arg0 c95_i32
  let c32_i32 : BitVec 32 := 32#32
  let v1 : BitVec 32 := Scalar.divsi v0 c32_i32
  let c32_i32_0 : BitVec 32 := 32#32
  let v2 : BitVec 32 := Scalar.muli v1 c32_i32_0
  let v3 : BitVec 32 := Scalar.subi v0 v2
  let v4 : Index := Scalar.indexCast v1
  let v5 : BitVec 32 := pf.at 0 (Rect.unit (s := S3) ![v4.toNat] S1.size (k0_off1_inb i)) numel1_S1
  let c1_i32 : BitVec 32 := 1#32
  let c8192_i32 : BitVec 32 := 8192#32
  let v6 : BitVec 32 := Scalar.maxsi c1_i32 v5
  let v7 : BitVec 32 := Scalar.minsi c8192_i32 v6
  let c1_i32_1 : BitVec 32 := 1#32
  let v8 : BitVec 32 := Scalar.subi v7 c1_i32_1
  let c256_i32 : BitVec 32 := 256#32
  let v9 : BitVec 32 := Scalar.divsi v8 c256_i32
  let v10 : BitVec 32 := Scalar.minsi v3 v9
  let c0_i32 : BitVec 32 := 0#32
  let c0_i32_2 : BitVec 32 := 0#32
  ![v1.toNat, v10.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c95_i32 : BitVec 32 := 95#32
  let v0 : BitVec 32 := Scalar.minsi arg0 c95_i32
  let c32_i32 : BitVec 32 := 32#32
  let v1 : BitVec 32 := Scalar.divsi v0 c32_i32
  let c32_i32_0 : BitVec 32 := 32#32
  let v2 : BitVec 32 := Scalar.muli v1 c32_i32_0
  let v3 : BitVec 32 := Scalar.subi v0 v2
  let c0_i32 : BitVec 32 := 0#32
  let c0_i32_1 : BitVec 32 := 0#32
  let c0_i32_2 : BitVec 32 := 0#32
  ![v1.toNat, c0_i32.toNat, c0_i32_1.toNat]

def cc0_transform_5 (i : grid0.Coords) : Fin 3 → Nat :=
  let arg0 : BitVec 32 := BitVec.ofNat 32 (i 0).val
  let c95_i32 : BitVec 32 := 95#32
  let v0 : BitVec 32 := Scalar.minsi arg0 c95_i32
  let c32_i32 : BitVec 32 := 32#32
  let v1 : BitVec 32 := Scalar.divsi v0 c32_i32
  let c32_i32_0 : BitVec 32 := 32#32
  let v2 : BitVec 32 := Scalar.muli v1 c32_i32_0
  let v3 : BitVec 32 := Scalar.subi v0 v2
  let c0_i32 : BitVec 32 := 0#32
  let c0_i32_1 : BitVec 32 := 0#32
  let c0_i32_2 : BitVec 32 := 0#32
  ![v1.toNat, c0_i32.toNat, c0_i32_1.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi v2 c1_i32_0
  let c32_i32_1 : BitVec 32 := 32#32
  let v4 : BitVec 32 := Scalar.muli v3 c32_i32_1
  let v5 : BitVec 32 := Scalar.subi arg0 v4
  let c0_i32_2 : BitVec 32 := 0#32
  let c4_i32 : BitVec 32 := 4#32
  let v6 : BitVec 32 := Scalar.maxsi c0_i32_2 v5
  let v7 : BitVec 32 := Scalar.minsi c4_i32 v6
  let c0_i32_3 : BitVec 32 := 0#32
  let c0_i32_4 : BitVec 32 := 0#32
  let c0_i32_5 : BitVec 32 := 0#32
  ![v2.toNat, v7.toNat, c0_i32_3.toNat, c0_i32_4.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi v2 c1_i32_0
  let c32_i32_1 : BitVec 32 := 32#32
  let v4 : BitVec 32 := Scalar.muli v3 c32_i32_1
  let v5 : BitVec 32 := Scalar.subi arg0 v4
  let c0_i32_2 : BitVec 32 := 0#32
  let c4_i32 : BitVec 32 := 4#32
  let v6 : BitVec 32 := Scalar.maxsi c0_i32_2 v5
  let v7 : BitVec 32 := Scalar.minsi c4_i32 v6
  let c0_i32_3 : BitVec 32 := 0#32
  let c0_i32_4 : BitVec 32 := 0#32
  ![v2.toNat, v7.toNat, c0_i32_3.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi v2 c1_i32_0
  let c32_i32_1 : BitVec 32 := 32#32
  let v4 : BitVec 32 := Scalar.muli v3 c32_i32_1
  let v5 : BitVec 32 := Scalar.subi arg0 v4
  let c0_i32_2 : BitVec 32 := 0#32
  let c4_i32 : BitVec 32 := 4#32
  let v6 : BitVec 32 := Scalar.maxsi c0_i32_2 v5
  let v7 : BitVec 32 := Scalar.minsi c4_i32 v6
  let c0_i32_3 : BitVec 32 := 0#32
  let c0_i32_4 : BitVec 32 := 0#32
  let c0_i32_5 : BitVec 32 := 0#32
  ![v2.toNat, v7.toNat, c0_i32_3.toNat, c0_i32_4.toNat]

def cc0_transform_9 (i : grid0.Coords) : Fin 3 → Nat :=
  let arg0 : BitVec 32 := BitVec.ofNat 32 (i 0).val
  let c95_i32 : BitVec 32 := 95#32
  let v0 : BitVec 32 := Scalar.minsi arg0 c95_i32
  let c32_i32 : BitVec 32 := 32#32
  let v1 : BitVec 32 := Scalar.divsi v0 c32_i32
  let c32_i32_0 : BitVec 32 := 32#32
  let v2 : BitVec 32 := Scalar.muli v1 c32_i32_0
  let v3 : BitVec 32 := Scalar.subi v0 v2
  let c0_i32 : BitVec 32 := 0#32
  let c0_i32_1 : BitVec 32 := 0#32
  ![v1.toNat, v3.toNat, c0_i32.toNat]

def cc0_transform_10 (i : grid0.Coords) : Fin 4 → Nat :=
  let arg0 : BitVec 32 := BitVec.ofNat 32 (i 0).val
  let c32_i32 : BitVec 32 := 32#32
  let v0 : BitVec 32 := Scalar.divsi arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi v2 c1_i32_0
  let c32_i32_1 : BitVec 32 := 32#32
  let v4 : BitVec 32 := Scalar.muli v3 c32_i32_1
  let v5 : BitVec 32 := Scalar.subi arg0 v4
  let c0_i32_2 : BitVec 32 := 0#32
  let c4_i32 : BitVec 32 := 4#32
  let v6 : BitVec 32 := Scalar.maxsi c0_i32_2 v5
  let v7 : BitVec 32 := Scalar.minsi c4_i32 v6
  let c0_i32_3 : BitVec 32 := 0#32
  let c0_i32_4 : BitVec 32 := 0#32
  let c0_i32_5 : BitVec 32 := 0#32
  ![v2.toNat, v7.toNat, c0_i32_3.toNat, c0_i32_4.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let v3 : BitVec 32 := Scalar.addi v2 c1_i32_0
  let c32_i32_1 : BitVec 32 := 32#32
  let v4 : BitVec 32 := Scalar.muli v3 c32_i32_1
  let v5 : BitVec 32 := Scalar.subi arg0 v4
  let c0_i32_2 : BitVec 32 := 0#32
  let c4_i32 : BitVec 32 := 4#32
  let v6 : BitVec 32 := Scalar.maxsi c0_i32_2 v5
  let v7 : BitVec 32 := Scalar.minsi c4_i32 v6
  let c0_i32_3 : BitVec 32 := 0#32
  let c0_i32_4 : BitVec 32 := 0#32
  ![v2.toNat, v7.toNat, c0_i32_3.toNat]

abbrev stage0_0 : Fin 2 → Memref sig .tc .vmem S1x256x11520 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x11520x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x120x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x24x96x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x24x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x24x96x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x11520 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x24x96x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x24x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S3x8192x11520 : Shape := ⟨3, ![3, 8192, 11520]⟩
abbrev S3x8192x8x128 : Shape := ⟨4, ![3, 8192, 8, 128]⟩
abbrev S3x8192x120 : Shape := ⟨3, ![3, 8192, 120]⟩
abbrev S120 : Shape := ⟨1, ![120]⟩
abbrev S3x120x96x128 : Shape := ⟨4, ![3, 120, 96, 128]⟩
abbrev S3x120x96 : Shape := ⟨3, ![3, 120, 96]⟩
abbrev S3 : Shape := ⟨1, ![3]⟩
abbrev S1x1x120 : Shape := ⟨3, ![1, 1, 120]⟩
abbrev S_ : Shape := ⟨0, ![]⟩
abbrev S3x1x120 : Shape := ⟨3, ![3, 1, 120]⟩
abbrev S3x120 : Shape := ⟨2, ![3, 120]⟩
abbrev S3x1 : Shape := ⟨2, ![3, 1]⟩
abbrev S3x120x96x1 : Shape := ⟨4, ![3, 120, 96, 1]⟩
abbrev S3x120x1x1 : Shape := ⟨4, ![3, 120, 1, 1]⟩
abbrev S3x120x96x254 : Shape := ⟨4, ![3, 120, 96, 254]⟩
abbrev S8192 : Shape := ⟨1, ![8192]⟩
abbrev S1x8192 : Shape := ⟨2, ![1, 8192]⟩
abbrev S3x8192 : Shape := ⟨2, ![3, 8192]⟩
abbrev S3x8192x1 : Shape := ⟨3, ![3, 8192, 1]⟩
abbrev S3x8x15x96x128 : Shape := ⟨5, ![3, 8, 15, 96, 128]⟩
abbrev S3x8x15x96x8192 : Shape := ⟨5, ![3, 8, 15, 96, 8192]⟩
abbrev S3x8192x8x15x96 : Shape := ⟨5, ![3, 8192, 8, 15, 96]⟩
abbrev S3x8192x120x96 : Shape := ⟨4, ![3, 8192, 120, 96]⟩
abbrev S3x1x120x96 : Shape := ⟨4, ![3, 1, 120, 96]⟩
abbrev S3x8192x120x1 : Shape := ⟨4, ![3, 8192, 120, 1]⟩

abbrev nBuf : Space → Nat
  | .hbm => 50
  | .vmem => 8
  | .smem => 0
  | _ => 0

abbrev bufTy : (tb : Table) → Fin (tcTables nBuf tb) → BufTy
  | .hbm, ⟨0, _⟩ => ⟨S3x8192x11520, .bf16⟩
  | .hbm, ⟨1, _⟩ => ⟨S3x8192x8x128, .bf16⟩
  | .hbm, ⟨2, _⟩ => ⟨S3x8192x120, .f32⟩
  | .hbm, ⟨3, _⟩ => ⟨S120, .f32⟩
  | .hbm, ⟨4, _⟩ => ⟨S3x120x96x128, .fp8e4m3⟩
  | .hbm, ⟨5, _⟩ => ⟨S3x120x96, .f32⟩
  | .hbm, ⟨6, _⟩ => ⟨S3x120x96x128, .f32⟩
  | .hbm, ⟨7, _⟩ => ⟨S3, .i32⟩
  | .hbm, ⟨8, _⟩ => ⟨S120, .f32⟩
  | .hbm, ⟨9, _⟩ => ⟨S120, .f32⟩
  | .hbm, ⟨10, _⟩ => ⟨S1x1x120, .f32⟩
  | .hbm, ⟨11, _⟩ => ⟨S3x8192x120, .f32⟩
  | .hbm, ⟨12, _⟩ => ⟨S3x8192x120, .f32⟩
  | .hbm, ⟨13, _⟩ => ⟨S_, .f32⟩
  | .hbm, ⟨14, _⟩ => ⟨S_, .f32⟩
  | .hbm, ⟨15, _⟩ => ⟨S3x8192x120, .f32⟩
  | .hbm, ⟨16, _⟩ => ⟨S3x8192x120, .f32⟩
  | .hbm, ⟨17, _⟩ => ⟨S3x1x120, .f32⟩
  | .hbm, ⟨18, _⟩ => ⟨S3x120, .f32⟩
  | .hbm, ⟨19, _⟩ => ⟨S3x1, .i32⟩
  | .hbm, ⟨20, _⟩ => ⟨S3x120, .i32⟩
  | .hbm, ⟨21, _⟩ => ⟨S3x120x96x128, .bf16⟩
  | .hbm, ⟨22, _⟩ => ⟨S3x120x96x128, .fp8e4m3⟩
  | .hbm, ⟨23, _⟩ => ⟨S3x120x96, .f32⟩
  | .hbm, ⟨24, _⟩ => ⟨S8192, .i32⟩
  | .hbm, ⟨25, _⟩ => ⟨S1x8192, .i32⟩
  | .hbm, ⟨26, _⟩ => ⟨S3x1, .i32⟩
  | .hbm, ⟨27, _⟩ => ⟨S3x8192, .i32⟩
  | .hbm, ⟨28, _⟩ => ⟨S3x8192, .i32⟩
  | .hbm, ⟨29, _⟩ => ⟨S3x8192, .i1⟩
  | .hbm, ⟨30, _⟩ => ⟨S3x8192x1, .i1⟩
  | .hbm, ⟨31, _⟩ => ⟨S_, .f32⟩
  | .hbm, ⟨32, _⟩ => ⟨S_, .f32⟩
  | .hbm, ⟨33, _⟩ => ⟨S3x8192x120, .i1⟩
  | .hbm, ⟨34, _⟩ => ⟨S3x8192x120, .f32⟩
  | .hbm, ⟨35, _⟩ => ⟨S3x8192x120, .f32⟩
  | .hbm, ⟨36, _⟩ => ⟨S3x8x15x96x128, .bf16⟩
  | .hbm, ⟨37, _⟩ => ⟨S3x8x15x96x8192, .f32⟩
  | .hbm, ⟨38, _⟩ => ⟨S3x8192x8x15x96, .f32⟩
  | .hbm, ⟨39, _⟩ => ⟨S3x8192x120x96, .f32⟩
  | .hbm, ⟨40, _⟩ => ⟨S3x1x120x96, .f32⟩
  | .hbm, ⟨41, _⟩ => ⟨S3x8192x120x96, .f32⟩
  | .hbm, ⟨42, _⟩ => ⟨S3x8192x120x96, .f32⟩
  | .hbm, ⟨43, _⟩ => ⟨S3x8192x120x1, .f32⟩
  | .hbm, ⟨44, _⟩ => ⟨S3x8192x120x96, .f32⟩
  | .hbm, ⟨45, _⟩ => ⟨S3x8192x120x96, .f32⟩
  | .hbm, ⟨46, _⟩ => ⟨S3x8192x11520, .f32⟩
  | .hbm, ⟨47, _⟩ => ⟨S3x8192x11520, .f32⟩
  | .hbm, ⟨48, _⟩ => ⟨S3x8192x11520, .f32⟩
  | .hbm, ⟨49, _⟩ => ⟨S3x8192x11520, .bf16⟩
  | .local _ .vmem, ⟨0, _⟩ => ⟨S3x120x96x128, .fp8e4m3⟩
  | .local _ .vmem, ⟨1, _⟩ => ⟨S3x120x96, .f32⟩
  | .local _ .vmem, ⟨2, _⟩ => ⟨S3x120x96x128, .f32⟩
  | .local _ .vmem, ⟨3, _⟩ => ⟨S3x120, .f32⟩
  | .local _ .vmem, ⟨4, _⟩ => ⟨S3x120, .i32⟩
  | .local _ .vmem, ⟨5, _⟩ => ⟨S3x120x96x128, .bf16⟩
  | .local _ .vmem, ⟨6, _⟩ => ⟨S3x120x96x128, .fp8e4m3⟩
  | .local _ .vmem, ⟨7, _⟩ => ⟨S3x120x96, .f32⟩
  | _, _ => ⟨S3x8192x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x120x96x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x120x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x120x96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x120 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x120x96x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x120x96x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x120x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Blocks.lean ====
/-
  The kernel body as five blocks, one per guarded region of its text. Each block is a program of its own here, so that each
  gets a triple of its own.
-/
module

public import proofs.«01_k».proof.Proof.Gen.Kernel
public import proofs.«01_k».proof.Proof.Gen.Kernel.Skeleton
public import Idealize.ShloMosaic.Lib.Pipeline.Kit
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- A buffer's contents type on core `c`. -/
abbrev Bf (c : Dev nD) {sp : Space} {S : Shape} {e : EltTy} (M : Memref sig .tc sp S e) : Type := Buf (Elt F) (M.view.loc (c : Thread nD τ))
/-- The buffer held whole at given contents. -/
abbrev pt (c : Dev nD) {sp : Space} {S : Shape} {e : EltTy} (M : Memref sig .tc sp S e) (f : Bf (F := F) c M) : sProp 𝕄 :=
  M.view.loc (c : Thread nD τ) ↦{fullShare} f

/-- What the kernel does at the first chunk of a batch: clear the carry, keep the decoded state codes, lay out the scales. -/
def startBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)  :
    Prog (TpuEff nD τ sig (Elt F) Λ₀ .tc) PUnit := do
  let ⟨v51, v63⟩ : Σ' (v51 : FVec F S30x96 .f32), FVec F S30x32 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v92, v95, v97, cst_46⟩ : Σ' (v92 : FVec F S256x128 .f32) (v95 : IVec S256x128 32) (v97 : IVec S256x128 1), F .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v51 v63
  let v130 : FVec F S256x128 .bf16 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v92 v95 v97 cst_46
  let ⟨v158, v161, v166⟩ : Σ' (v158 : FVec F S256x128 .f32) (v161 : IVec S256x128 32), FVec F S256x128 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v130
  let v200 : Vec F S1x256x128 .fp8e4m3 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v158 v161 v166
  let v211 : Vec F S1x256x128 .bf16 ← Prog.lift (.load arg15 (Rect.unit (s := S7x256x256) ![6, 0, 0] S1x256x128.size inb_S7x256x256_S1x256x128_6_0_0).toLoadRect (View.loadsAt_vmem h_S1x256x128))
  Prog.lift (.store arg15 (Rect.unit (s := S7x256x256) ![6, 0, 0] S1x256x128.size inb_S7x256x256_S1x256x128_6_0_0) (k0_pay3 v200) Finset.univ (View.stores_vmem h_S1x256x128 (harg15.storeExact_slice rfl _ packedbf16_S7x256x256_S1x256x128_6_0_0) (fun _ => rfl)) (.inl rfl))
  let v219 : Vec F S1x256x128 .bf16 ← Prog.lift (.load arg15 (Rect.unit (s := S7x256x256) ![6, 0, 128] S1x256x128.size inb_S7x256x256_S1x256x128_6_0_128).toLoadRect (View.loadsAt_vmem h_S1x256x128))
  Prog.lift (.store arg15 (Rect.unit (s := S7x256x256) ![6, 0, 128] S1x256x128.size inb_S7x256x256_S1x256x128_6_0_128) (k0_pay4 v200) Finset.univ (View.stores_vmem h_S1x256x128 (harg15.storeExact_slice rfl _ packedbf16_S7x256x256_S1x256x128_6_0_128) (fun _ => rfl)) (.inl rfl))
  pure ⟨⟩

/-- What the kernel does at a chunk with a live token: the decay and the ninety column slices of the result. -/
def correctBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (v4 : BitVec 32) (v6 : Elt F .i32) :
    Prog (TpuEff nD τ sig (Elt F) Λ₀ .tc) PUnit := do
  let ⟨v244, v249, v253, v257, v2296, v2321⟩ : Σ' (v244 : FVec F S256x128 .f32) (v249 : IVec S256x128 32) (v253 : IVec S256x128 32) (v257 : IVec S256x128 32) (v2296 : FVec F S256x256 .f32), IVec S256x128 32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6
  let ⟨v2348, v2358, v2359⟩ : Σ' (v2348 : FVec F S256x256 .f32) (v2358 : FVec F S256x128 .f32), FVec F S256x128 .f32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v253 v257 v2296 v2321
  k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v249 v2348 v2358 v2359
  let ⟨v2434, v2435⟩ : Σ' (v2434 : FVec F S256x128 .f32), FVec F S256x128 .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v253 v257
  let ⟨v2452, v2468, v2470⟩ : Σ' (v2452 : FVec F S256x256 .f32) (v2468 : FVec F S256x128 .f32), FVec F S256x128 .bf16 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v249 v2434 v2435
  let ⟨v2504, v2506⟩ : Σ' (v2504 : FVec F S256x256 .f32), IVec S256x128 32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v253 v257 v2452 v2468 v2470
  let ⟨v2544, v2545⟩ : Σ' (v2544 : FVec F S256x128 .f32), Vec F S1x256x128 .bf16 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v249 v2504 v2506
  let ⟨v2556, v2581⟩ : Σ' (v2556 : FVec F S256x256 .f32), IVec S256x128 32 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v253 v2544 v2545
  let v2592 : Vec F S1x1x128 .f32 ← Prog.lift (.load arg16 (Rect.unit (s := S3x32x128) ![2, 29, 0] S1x1x128.size inb_S3x32x128_S1x1x128_2_29_0).toLoadRect (View.loadsAt_vmem h_S1x1x128))
  let v2597 : Vec F S1x256x128 .bf16 ← Prog.lift (.load arg2 (Rect.unit (s := S1x256x11520) ![0, 0, 11392] S1x256x128.size inb_S1x256x11520_S1x256x128_0_0_11392).toLoadRect (View.loadsAt_vmem h_S1x256x128))
  let v2602 : Vec F S1x256x128 .bf16 ← Prog.lift (.load arg11 (Rect.unit (s := S1x256x11520) ![0, 0, 11392] S1x256x128.size inb_S1x256x11520_S1x256x128_0_0_11392).toLoadRect (View.loadsAt_vmem h_S1x256x128))
  Prog.lift (.store arg11 (Rect.unit (s := S1x256x11520) ![0, 0, 11392] S1x256x128.size inb_S1x256x11520_S1x256x128_0_0_11392) (k0_pay5 v244 v257 v2556 v2581 v2592 v2597) Finset.univ (View.stores_vmem h_S1x256x128 (harg11.storeExact_slice rfl _ packedbf16_S1x256x11520_S1x256x128_0_0_11392) (fun _ => rfl)) (.inl rfl))
  pure ⟨⟩

/-- What the kernel does at a chunk with no live token: copy the local result. -/
def copyBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)  :
    Prog (TpuEff nD τ sig (Elt F) Λ₀ .tc) PUnit := do
  let v34 : Vec F S1x256x11520 .bf16 ← Prog.lift (.load arg2 (Rect.unit (s := S1x256x11520) ![0, 0, 0] S1x256x11520.size inb_S1x256x11520_S1x256x11520_0_0_0).toLoadRect (View.loadsAt_vmem h_S1x256x11520))
  let v35 : Vec F S1x256x11520 .bf16 ← Prog.lift (.load arg11 (Rect.unit (s := S1x256x11520) ![0, 0, 0] S1x256x11520.size inb_S1x256x11520_S1x256x11520_0_0_0).toLoadRect (View.loadsAt_vmem h_S1x256x11520))
  Prog.lift (.store arg11 (Rect.unit (s := S1x256x11520) ![0, 0, 0] S1x256x11520.size inb_S1x256x11520_S1x256x11520_0_0_0) v34 Finset.univ (View.stores_vmem h_S1x256x11520 (harg11.storeExact_slice rfl _ packedbf16_S1x256x11520_S1x256x11520_0_0_0) (fun _ => rfl)) (.inl rfl))
  pure ⟨⟩

/-- What the kernel does at the last chunk of a batch: keep the total log-decay. -/
def endBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)  :
    Prog (TpuEff nD τ sig (Elt F) Λ₀ .tc) PUnit := do
  let v34 : Vec F S1x128 .f32 ← Prog.lift (.load arg17 (Rect.unit (s := S1x128) ![0, 0] S1x128.size inb_S1x128_S1x128_0_0).toLoadRect (View.loadsAt_vmem h_S1x128))
  let v37 : Vec F S8x128 .f32 ← Prog.lift (.load arg18 (Rect.unit (s := S8x128) ![0, 0] S8x128.size inb_S8x128_S8x128_0_0).toLoadRect (View.loadsAt_vmem h_S8x128))
  Prog.lift (.store arg18 (Rect.unit (s := S8x128) ![0, 0] S8x128.size inb_S8x128_S8x128_0_0) (k0_pay6 v34) Finset.univ (View.stores_vmem_bits_univ h_S8x128 rfl) (.inl rfl))
  pure ⟨⟩

/-- What the kernel does at a step that writes final states: decay, add and quantise 24 heads. -/
def finalBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (arg0 : BitVec 32) (v25 : BitVec 32) (k0_h5 : k0_cond5 i = 1#1) :
    Prog (TpuEff nD τ sig (Elt F) Λ₀ .tc) PUnit := do
  let ⟨v2359, v2377, v2378⟩ : Σ' (v2359 : IVec S96x1 32) (v2377 : FVec F S96x128 .fp8e4m3), Vec F S1x1x96x128 .fp8e4m3 ← k0_part133 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v25 k0_h5
  Prog.lift (.store arg12 (Rect.unit (s := S1x24x96x128) ![0, 23, 0, 0] S1x1x96x128.size inb_S1x24x96x128_S1x1x96x128_0_23_0_0) (k0_pay7 v2377) Finset.univ (View.stores_vmem h_S1x1x96x128 (harg12.storeExact_slice rfl _ packedfp8e4m3_S1x24x96x128_S1x1x96x128_0_23_0_0) (fun _ => rfl)) (.inl rfl))
  let v2391 : Vec F S1x1x96 .f32 ← Prog.lift (.load arg13 (Rect.unit (s := S1x24x96) ![0, 23, 0] S1x1x96.size inb_S1x24x96_S1x1x96_0_23_0).toLoadRect (View.loadsAt_vmem h_S1x1x96))
  Prog.lift (.store arg13 (Rect.unit (s := S1x24x96) ![0, 23, 0] S1x1x96.size inb_S1x24x96_S1x1x96_0_23_0) (k0_pay8 (F := F) v2359) Finset.univ (View.stores_vmem_bits_univ h_S1x1x96 rfl) (.inl rfl))
  pure ⟨⟩

/-- The chunk's index in its batch, at the steps that correct the result. -/
abbrev chunkWord (i : grid0.Coords) : BitVec 32 :=
  Scalar.subi (BitVec.ofNat 32 (i 0).val) (Scalar.muli (Scalar.minsi (Scalar.divsi (BitVec.ofNat 32 (i 0).val) 32#32) 2#32) 32#32)
/-- The first chunk of a batch. -/
abbrev startCond (i : grid0.Coords) : BitVec 1 := Scalar.cmpi .ne (Scalar.extui (Scalar.andi (Scalar.cmpi .slt (BitVec.ofNat 32 (i 0).val) 96#32) (Scalar.cmpi .eq (chunkWord i) 0#32))) 0#32
/-- The last chunk of a batch. -/
abbrev endCond (i : grid0.Coords) : BitVec 1 := Scalar.cmpi .ne (Scalar.extui (Scalar.andi (Scalar.cmpi .slt (BitVec.ofNat 32 (i 0).val) 96#32) (Scalar.cmpi .eq (chunkWord i) 31#32))) 0#32
/-- The batch whose final states a step writes. -/
abbrev finalBatchWord (i : grid0.Coords) : BitVec 32 := Scalar.subi (Scalar.divsi (BitVec.ofNat 32 (i 0).val) 32#32) 1#32

/-- The kernel body over its five blocks: each runs at the steps its printed condition names. -/
def rootBlocks (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) :
    Prog (TpuEff nD τ sig (Elt F) Λ₀ .tc) PUnit := do
  let v6 : Elt F .i32 ← smemLoad arg1 (Rect.unit (s := S3) (k0_off2 i) S1.size (k0_off2_inb i)) numel1_S1 rfl
  (if k0_h1 : startCond i = 1#1 then startBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 else pure ⟨⟩ : Prog (TpuEff nD τ sig (Elt F) Λ₀ .tc) PUnit)
  (if k0_h2 : k0_cond2 i v6 = 1#1 then correctBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) v6 else pure ⟨⟩ : Prog (TpuEff nD τ sig (Elt F) Λ₀ .tc) PUnit)
  (if k0_h3 : k0_cond3 i v6 = 1#1 then copyBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 else pure ⟨⟩ : Prog (TpuEff nD τ sig (Elt F) Λ₀ .tc) PUnit)
  (if k0_h4 : endCond i = 1#1 then endBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 else pure ⟨⟩ : Prog (TpuEff nD τ sig (Elt F) Λ₀ .tc) PUnit)
  (if k0_h5 : k0_cond5 i = 1#1 then finalBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (finalBatchWord i) k0_h5 else pure ⟨⟩ : Prog (TpuEff nD τ sig (Elt F) Λ₀ .tc) PUnit)
  pure ⟨⟩

/-- A guarded region followed by the rest, when the text has the rest inside both branches. -/
theorem guarded_then {c : Prop} [Decidable c] {A : c → Prog (TpuEff nD τ sig (Elt F) Λ₀ .tc) PUnit} {k : PUnit → Prog (TpuEff nD τ sig (Elt F) Λ₀ .tc) PUnit}
    {B : c → Prog (TpuEff nD τ sig (Elt F) Λ₀ .tc) PUnit} {D : Prog (TpuEff nD τ sig (Elt F) Λ₀ .tc) PUnit}
    (hB : ∀ h, B h = A h >>= fun _ => D) (hD : D = k ⟨⟩) :
    (if h : c then B h else D) = ((if h : c then A h else pure ⟨⟩) >>= k) := by
  by_cases h : c
  · rw [dif_pos h, dif_pos h, hB h, hD]
  · rw [dif_neg h, dif_neg h, hD, pure_bind]

set_option maxRecDepth 65536 in
/-- The kernel body is that composition. -/
theorem root_eq_blocks : cc0_carry_correction (F := F) = rootBlocks (F := F) := by
  rw [cc0_carry_correction_eq_skeleton]
  funext _ _ _ _ _ _ _ _ _ _ _ _ _ _ _ _ _ _ _ _ _ _ _ _ _ _ _ _ _ _ _ _ _ _ _ _ _ _ _
  unfold cc0_carry_correction_skel rootBlocks
  dsimp only
  refine bind_congr fun v6 => ?_
  refine guarded_then (fun h => ?_) ?_
  · simp only [startBlock, bind_assoc, pure_bind]
  refine guarded_then (fun h => ?_) ?_
  · simp only [correctBlock, bind_assoc, pure_bind]
  refine guarded_then (fun h => ?_) ?_
  · simp only [copyBlock, bind_assoc, pure_bind]
  refine guarded_then (fun h => ?_) ?_
  · simp only [endBlock, bind_assoc, pure_bind]
  refine guarded_then (fun h => ?_) ?_
  · simp only [finalBlock, bind_assoc, pure_bind]
  rfl

end Cert.Kernel.Gen

end
-- ==== Proof.RunStart.lean ====
/-
  The run of a block of the kernel body.
-/
module

public import proofs.«01_k».proof.Proof.Blocks
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The run of the start of a batch, with what it leaves. -/
def startRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)
    (f6 : Bf (F := F) c arg6) (f7 : Bf (F := F) c arg7) (f16 : Bf (F := F) c arg16) :
    { W : Bf (F := F) c arg16 × Bf (F := F) c arg17 × Bf (F := F) c arg14 × Bf (F := F) c arg15 //
      ∀ (f17 : Bf (F := F) c arg17) (f14 : Bf (F := F) c arg14) (f15 : Bf (F := F) c arg15) (E : Set ℕ) (Q : PUnit → sProp 𝕄),
        iprop(pt c arg6 f6 ∗ pt c arg7 f7 ∗ pt c arg16 f16 ∗ pt c arg17 f17 ∗ pt c arg14 f14 ∗ pt c arg15 f15
          ∗ (iprop(pt c arg6 f6 ∗ pt c arg7 f7 ∗ pt c arg16 W.1 ∗ pt c arg17 W.2.1 ∗ pt c arg14 W.2.2.1 ∗ pt c arg15 W.2.2.2) -∗ Q ⟨⟩))
        ⊢ wp frame (wpE (defs₀ (F := F)) Variants.none c none) E
            (startBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) Q } := by
  refine ⟨⟨?_, ?_, ?_, ?_⟩, fun f17 f14 f15 E Q => ?run⟩
  case run =>
    iintro ⟨H6, H7, H16, H17, H14, H15, Hk⟩
    unfold startBlock

    sl_exec_parts!
    sl_step
    iapply Hk
    isplitl [H6]; · iexact H6
    isplitl [H7]; · iexact H7
    isplitl [H16]; · iexact H16
    isplitl [H17]; · iexact H17
    isplitl [H14]; · iexact H14
    iexact H15

end Cert.Kernel.Gen

end
-- ==== Proof.RunCorrect.lean ====
/-
  The run of a block of the kernel body.
-/
module

public import proofs.«01_k».proof.Proof.Blocks
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The correction's run, with what it leaves. -/
def correctRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (v4 : BitVec 32) (v6 : Elt F .i32)
    (f2 : Bf (F := F) c arg2) (f3 : Bf (F := F) c arg3) (f4 : Bf (F := F) c arg4) (f5 : Bf (F := F) c arg5) (f14 : Bf (F := F) c arg14) (f15 : Bf (F := F) c arg15) (f16 : Bf (F := F) c arg16) (f17 : Bf (F := F) c arg17) :
    { W : Bf (F := F) c arg17 × Bf (F := F) c arg11 //
      ∀ (f11 : Bf (F := F) c arg11) (f19 : Bf (F := F) c arg19) (E : Set ℕ) (Q : PUnit → sProp 𝕄),
        iprop(pt c arg2 f2 ∗ pt c arg3 f3 ∗ pt c arg4 f4 ∗ pt c arg5 f5 ∗ pt c arg14 f14 ∗ pt c arg15 f15 ∗ pt c arg16 f16 ∗ pt c arg17 f17 ∗ pt c arg11 f11 ∗ pt c arg19 f19
          ∗ (iprop(pt c arg2 f2 ∗ pt c arg3 f3 ∗ pt c arg4 f4 ∗ pt c arg5 f5 ∗ pt c arg14 f14 ∗ pt c arg15 f15 ∗ pt c arg16 f16 ∗ pt c arg17 W.1 ∗ pt c arg11 W.2 ∗ (∃ f, pt c arg19 f)) -∗ Q ⟨⟩))
        ⊢ wp frame (wpE (defs₀ (F := F)) Variants.none c none) E
            (correctBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6) Q } := by
  refine ⟨⟨?_, ?_⟩, fun f11 f19 E Q => ?run⟩
  case run =>
    iintro ⟨H2, H3, H4, H5, H14, H15, H16, H17, H11, H19, Hk⟩
    unfold correctBlock

    sl_exec_parts!
    sl_step
    iapply Hk
    isplitl [H2]; · iexact H2
    isplitl [H3]; · iexact H3
    isplitl [H4]; · iexact H4
    isplitl [H5]; · iexact H5
    isplitl [H14]; · iexact H14
    isplitl [H15]; · iexact H15
    isplitl [H16]; · iexact H16
    isplitl [H17]; · iexact H17
    isplitl [H11]; · iexact H11
    iexists _; iexact H19

end Cert.Kernel.Gen

end
-- ==== Proof.RunCopy.lean ====
/-
  The run of a block of the kernel body.
-/
module

public import proofs.«01_k».proof.Proof.Blocks
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The copy's run, with what it leaves. -/
def copyRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)
    (f2 : Bf (F := F) c arg2) :
    { W : Bf (F := F) c arg11 //
      ∀ (f11 : Bf (F := F) c arg11) (E : Set ℕ) (Q : PUnit → sProp 𝕄),
        iprop(pt c arg2 f2 ∗ pt c arg11 f11
          ∗ (iprop(pt c arg2 f2 ∗ pt c arg11 W) -∗ Q ⟨⟩))
        ⊢ wp frame (wpE (defs₀ (F := F)) Variants.none c none) E
            (copyBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) Q } := by
  refine ⟨?_, fun f11 E Q => ?run⟩
  case run =>
    iintro ⟨H2, H11, Hk⟩
    unfold copyBlock

    sl_exec_parts!
    sl_step
    iapply Hk
    isplitl [H2]; · iexact H2
    iexact H11

/-- The run of the end of a batch, with what it leaves. -/
def endRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)
    (f17 : Bf (F := F) c arg17) :
    { W : Bf (F := F) c arg18 //
      ∀ (f18 : Bf (F := F) c arg18) (E : Set ℕ) (Q : PUnit → sProp 𝕄),
        iprop(pt c arg17 f17 ∗ pt c arg18 f18
          ∗ (iprop(pt c arg17 f17 ∗ pt c arg18 W) -∗ Q ⟨⟩))
        ⊢ wp frame (wpE (defs₀ (F := F)) Variants.none c none) E
            (endBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) Q } := by
  refine ⟨?_, fun f18 E Q => ?run⟩
  case run =>
    iintro ⟨H17, H18, Hk⟩
    unfold endBlock

    sl_exec_parts!
    sl_step
    iapply Hk
    isplitl [H17]; · iexact H17
    iexact H18

end Cert.Kernel.Gen

end
-- ==== Proof.RunFinal.lean ====
/-
  The run of a block of the kernel body.
-/
module

public import proofs.«01_k».proof.Proof.Blocks
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The run of the final state, with what it leaves. -/
def finalRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (arg0 v25 : BitVec 32) (k0_h5 : k0_cond5 i = 1#1)
    (f1 : Bf (F := F) c arg1) (f8 : Bf (F := F) c arg8) (f9 : Bf (F := F) c arg9) (f10 : Bf (F := F) c arg10) (f18 : Bf (F := F) c arg18) :
    { W : Bf (F := F) c arg12 × Bf (F := F) c arg13 //
      ∀ (f12 : Bf (F := F) c arg12) (f13 : Bf (F := F) c arg13) (E : Set ℕ) (Q : PUnit → sProp 𝕄),
        iprop((arg1.view.loc (c : Thread nD τ) ↦{q} f1) ∗ pt c arg8 f8 ∗ pt c arg9 f9 ∗ pt c arg10 f10 ∗ pt c arg18 f18 ∗ pt c arg12 f12 ∗ pt c arg13 f13
          ∗ (iprop((arg1.view.loc (c : Thread nD τ) ↦{q} f1) ∗ pt c arg8 f8 ∗ pt c arg9 f9 ∗ pt c arg10 f10 ∗ pt c arg18 f18 ∗ pt c arg12 W.1 ∗ pt c arg13 W.2) -∗ Q ⟨⟩))
        ⊢ wp frame (wpE (defs₀ (F := F)) Variants.none c none) E
            (finalBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v25 k0_h5) Q } := by
  refine ⟨⟨?_, ?_⟩, fun f12 f13 E Q => ?run⟩
  case run =>
    iintro ⟨H1, H8, H9, H10, H18, H12, H13, Hk⟩
    unfold finalBlock

    sl_exec_parts!
    sl_step
    iapply Hk
    isplitl [H1]; · iexact H1
    isplitl [H8]; · iexact H8
    isplitl [H9]; · iexact H9
    isplitl [H10]; · iexact H10
    isplitl [H18]; · iexact H18
    isplitl [H12]; · iexact H12
    iexact H13

end Cert.Kernel.Gen

end
-- ==== Proof.Body.lean ====
/-
  The kernel body from its blocks.
-/
module

public import proofs.«01_k».proof.Proof.RunStart
public import proofs.«01_k».proof.Proof.RunCorrect
public import proofs.«01_k».proof.Proof.RunCopy
public import proofs.«01_k».proof.Proof.RunFinal
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The block of the first chunk under its guard: run where the guard holds, nothing changed where it does not. -/
theorem guarded_start (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare)
    (f6 : Bf (F := F) c arg6) (f7 : Bf (F := F) c arg7) (f16 : Bf (F := F) c arg16) (f17 : Bf (F := F) c arg17) (f14 : Bf (F := F) c arg14) (f15 : Bf (F := F) c arg15) (g16 : Bf (F := F) c arg16) (g17 : Bf (F := F) c arg17) (g14 : Bf (F := F) c arg14) (g15 : Bf (F := F) c arg15)
    (e16 : g16 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.1 else f16) (e17 : g17 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.1 else f17) (e14 : g14 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.1 else f14) (e15 : g15 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.2 else f15)
    (E : Set ℕ) (Q : PUnit → sProp 𝕄) :
    iprop(pt c arg6 f6 ∗ pt c arg7 f7 ∗ pt c arg16 f16 ∗ pt c arg17 f17 ∗ pt c arg14 f14 ∗ pt c arg15 f15
        ∗ (iprop(pt c arg6 f6 ∗ pt c arg7 f7 ∗ pt c arg16 g16 ∗ pt c arg17 g17 ∗ pt c arg14 g14 ∗ pt c arg15 g15) -∗ Q ⟨⟩))
      ⊢ wp frame (wpE (defs₀ (F := F)) Variants.none c none) E (if h : startCond i = 1#1 then startBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  else pure ⟨⟩) Q := by
  by_cases h : startCond i = 1#1
  · simp only [dif_pos h] at e16 e17 e14 e15 ⊢
    subst e16; subst e17; subst e14; subst e15
    iintro ⟨H6, H7, H16, H17, H14, H15, Hk⟩
    iapply (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).2 f17 f14 f15 E Q
    isplitl [H6]; · iexact H6
    isplitl [H7]; · iexact H7
    isplitl [H16]; · iexact H16
    isplitl [H17]; · iexact H17
    isplitl [H14]; · iexact H14
    isplitl [H15]; · iexact H15
    iexact Hk
  · simp only [dif_neg h] at e16 e17 e14 e15 ⊢
    subst e16; subst e17; subst e14; subst e15
    iintro ⟨H6, H7, H16, H17, H14, H15, Hk⟩
    sl_step
    iapply Hk
    isplitl [H6]; · iexact H6
    isplitl [H7]; · iexact H7
    isplitl [H16]; · iexact H16
    isplitl [H17]; · iexact H17
    isplitl [H14]; · iexact H14
    iexact H15

/-- The block of a live chunk under its guard: run where the guard holds, nothing changed where it does not. -/
theorem guarded_correct (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (v4 : BitVec 32) (v6 : Elt F .i32)
    (f2 : Bf (F := F) c arg2) (f3 : Bf (F := F) c arg3) (f4 : Bf (F := F) c arg4) (f5 : Bf (F := F) c arg5) (f14 : Bf (F := F) c arg14) (f15 : Bf (F := F) c arg15) (f16 : Bf (F := F) c arg16) (f17 : Bf (F := F) c arg17) (f11 : Bf (F := F) c arg11) (g17 : Bf (F := F) c arg17) (g11 : Bf (F := F) c arg11)
    (e17 : g17 = if h : k0_cond2 i v6 = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 f2 f3 f4 f5 f14 f15 f16 f17).1.1 else f17) (e11 : g11 = if h : k0_cond2 i v6 = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 f2 f3 f4 f5 f14 f15 f16 f17).1.2 else f11)
    (E : Set ℕ) (Q : PUnit → sProp 𝕄) :
    iprop(pt c arg2 f2 ∗ pt c arg3 f3 ∗ pt c arg4 f4 ∗ pt c arg5 f5 ∗ pt c arg14 f14 ∗ pt c arg15 f15 ∗ pt c arg16 f16 ∗ pt c arg17 f17 ∗ pt c arg11 f11 ∗ (∃ f, pt c arg19 f)
        ∗ (iprop(pt c arg2 f2 ∗ pt c arg3 f3 ∗ pt c arg4 f4 ∗ pt c arg5 f5 ∗ pt c arg14 f14 ∗ pt c arg15 f15 ∗ pt c arg16 f16 ∗ pt c arg17 g17 ∗ pt c arg11 g11 ∗ (∃ f, pt c arg19 f)) -∗ Q ⟨⟩))
      ⊢ wp frame (wpE (defs₀ (F := F)) Variants.none c none) E (if h : k0_cond2 i v6 = 1#1 then correctBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 else pure ⟨⟩) Q := by
  by_cases h : k0_cond2 i v6 = 1#1
  · simp only [dif_pos h] at e17 e11 ⊢
    subst e17; subst e11
    iintro ⟨H2, H3, H4, H5, H14, H15, H16, H17, H11, ⟨%f19, H19⟩, Hk⟩
    iapply (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 f2 f3 f4 f5 f14 f15 f16 f17).2 f11 f19 E Q
    isplitl [H2]; · iexact H2
    isplitl [H3]; · iexact H3
    isplitl [H4]; · iexact H4
    isplitl [H5]; · iexact H5
    isplitl [H14]; · iexact H14
    isplitl [H15]; · iexact H15
    isplitl [H16]; · iexact H16
    isplitl [H17]; · iexact H17
    isplitl [H11]; · iexact H11
    isplitl [H19]; · iexact H19
    iexact Hk
  · simp only [dif_neg h] at e17 e11 ⊢
    subst e17; subst e11
    iintro ⟨H2, H3, H4, H5, H14, H15, H16, H17, H11, H19, Hk⟩
    sl_step
    iapply Hk
    isplitl [H2]; · iexact H2
    isplitl [H3]; · iexact H3
    isplitl [H4]; · iexact H4
    isplitl [H5]; · iexact H5
    isplitl [H14]; · iexact H14
    isplitl [H15]; · iexact H15
    isplitl [H16]; · iexact H16
    isplitl [H17]; · iexact H17
    isplitl [H11]; · iexact H11
    iexact H19

/-- The block of a chunk with no live token under its guard: run where the guard holds, nothing changed where it does not. -/
theorem guarded_copy (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (v6 : Elt F .i32)
    (f2 : Bf (F := F) c arg2) (f11 : Bf (F := F) c arg11) (g11 : Bf (F := F) c arg11)
    (e11 : g11 = if h : k0_cond3 i v6 = 1#1 then (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f2).1 else f11)
    (E : Set ℕ) (Q : PUnit → sProp 𝕄) :
    iprop(pt c arg2 f2 ∗ pt c arg11 f11
        ∗ (iprop(pt c arg2 f2 ∗ pt c arg11 g11) -∗ Q ⟨⟩))
      ⊢ wp frame (wpE (defs₀ (F := F)) Variants.none c none) E (if h : k0_cond3 i v6 = 1#1 then copyBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  else pure ⟨⟩) Q := by
  by_cases h : k0_cond3 i v6 = 1#1
  · simp only [dif_pos h] at e11 ⊢
    subst e11
    iintro ⟨H2, H11, Hk⟩
    iapply (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f2).2 f11 E Q
    isplitl [H2]; · iexact H2
    isplitl [H11]; · iexact H11
    iexact Hk
  · simp only [dif_neg h] at e11 ⊢
    subst e11
    iintro ⟨H2, H11, Hk⟩
    sl_step
    iapply Hk
    isplitl [H2]; · iexact H2
    iexact H11

/-- The block of the last chunk under its guard: run where the guard holds, nothing changed where it does not. -/
theorem guarded_end (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare)
    (f17 : Bf (F := F) c arg17) (f18 : Bf (F := F) c arg18) (g18 : Bf (F := F) c arg18)
    (e18 : g18 = if h : endCond i = 1#1 then (endRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f17).1 else f18)
    (E : Set ℕ) (Q : PUnit → sProp 𝕄) :
    iprop(pt c arg17 f17 ∗ pt c arg18 f18
        ∗ (iprop(pt c arg17 f17 ∗ pt c arg18 g18) -∗ Q ⟨⟩))
      ⊢ wp frame (wpE (defs₀ (F := F)) Variants.none c none) E (if h : endCond i = 1#1 then endBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  else pure ⟨⟩) Q := by
  by_cases h : endCond i = 1#1
  · simp only [dif_pos h] at e18 ⊢
    subst e18
    iintro ⟨H17, H18, Hk⟩
    iapply (endRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f17).2 f18 E Q
    isplitl [H17]; · iexact H17
    isplitl [H18]; · iexact H18
    iexact Hk
  · simp only [dif_neg h] at e18 ⊢
    subst e18
    iintro ⟨H17, H18, Hk⟩
    sl_step
    iapply Hk
    isplitl [H17]; · iexact H17
    iexact H18

/-- The block of a step that writes final states under its guard: run where the guard holds, nothing changed where it does not. -/
theorem guarded_final (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (arg0 v25 : BitVec 32)
    (f1 : Bf (F := F) c arg1) (f8 : Bf (F := F) c arg8) (f9 : Bf (F := F) c arg9) (f10 : Bf (F := F) c arg10) (f18 : Bf (F := F) c arg18) (f12 : Bf (F := F) c arg12) (f13 : Bf (F := F) c arg13) (g12 : Bf (F := F) c arg12) (g13 : Bf (F := F) c arg13)
    (e12 : g12 = if h : k0_cond5 i = 1#1 then (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q arg0 v25 h f1 f8 f9 f10 f18).1.1 else f12) (e13 : g13 = if h : k0_cond5 i = 1#1 then (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q arg0 v25 h f1 f8 f9 f10 f18).1.2 else f13)
    (E : Set ℕ) (Q : PUnit → sProp 𝕄) :
    iprop((arg1.view.loc (c : Thread nD τ) ↦{q} f1) ∗ pt c arg8 f8 ∗ pt c arg9 f9 ∗ pt c arg10 f10 ∗ pt c arg18 f18 ∗ pt c arg12 f12 ∗ pt c arg13 f13
        ∗ (iprop((arg1.view.loc (c : Thread nD τ) ↦{q} f1) ∗ pt c arg8 f8 ∗ pt c arg9 f9 ∗ pt c arg10 f10 ∗ pt c arg18 f18 ∗ pt c arg12 g12 ∗ pt c arg13 g13) -∗ Q ⟨⟩))
      ⊢ wp frame (wpE (defs₀ (F := F)) Variants.none c none) E (if h : k0_cond5 i = 1#1 then finalBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v25 h else pure ⟨⟩) Q := by
  by_cases h : k0_cond5 i = 1#1
  · simp only [dif_pos h] at e12 e13 ⊢
    subst e12; subst e13
    iintro ⟨H1, H8, H9, H10, H18, H12, H13, Hk⟩
    iapply (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q arg0 v25 h f1 f8 f9 f10 f18).2 f12 f13 E Q
    isplitl [H1]; · iexact H1
    isplitl [H8]; · iexact H8
    isplitl [H9]; · iexact H9
    isplitl [H10]; · iexact H10
    isplitl [H18]; · iexact H18
    isplitl [H12]; · iexact H12
    isplitl [H13]; · iexact H13
    iexact Hk
  · simp only [dif_neg h] at e12 e13 ⊢
    subst e12; subst e13
    iintro ⟨H1, H8, H9, H10, H18, H12, H13, Hk⟩
    sl_step
    iapply Hk
    isplitl [H1]; · iexact H1
    isplitl [H8]; · iexact H8
    isplitl [H9]; · iexact H9
    isplitl [H10]; · iexact H10
    isplitl [H18]; · iexact H18
    isplitl [H12]; · iexact H12
    iexact H13

/-- The word of the table the body reads at a grid point: the batch's count of live tokens. -/
def smemWord (c : Dev nD) (arg1 : Memref sig .tc .smem S3 .i32) (f1 : Bf (F := F) c arg1) (i : grid0.Coords) : Elt F .i32 :=
  (arg1.access (Rect.unit (s := S3) (k0_off2 i) S1.size (k0_off2_inb i))).read (Elt F) f1 (Shape.Idx.first (numel1_S1.symm ▸ Nat.one_pos))

/-- THE BODY AT A GRID POINT: from its buffers held whole (the table at any share), it runs to its end and leaves in each
    buffer what its five blocks, in order, put there. -/
theorem bodyRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (g11 : Bf (F := F) c arg11) (g12 : Bf (F := F) c arg12) (g13 : Bf (F := F) c arg13) (g14 : Bf (F := F) c arg14) (g15 : Bf (F := F) c arg15) (g16 : Bf (F := F) c arg16) (g17 : Bf (F := F) c arg17) (g18 : Bf (F := F) c arg18) (g17a : Bf (F := F) c arg17) (g11a : Bf (F := F) c arg11)
    (e16 : g16 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.1 else f16)
    (e17a : g17a = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.1 else f17)
    (e14 : g14 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.1 else f14)
    (e15 : g15 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.2 else f15)
    (e17 : g17 = if h : k0_cond2 i (smemWord c arg1 f1 i) = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) (smemWord c arg1 f1 i) f2 f3 f4 f5 g14 g15 g16 g17a).1.1 else g17a)
    (e11a : g11a = if h : k0_cond2 i (smemWord c arg1 f1 i) = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) (smemWord c arg1 f1 i) f2 f3 f4 f5 g14 g15 g16 g17a).1.2 else f11)
    (e11 : g11 = if h : k0_cond3 i (smemWord c arg1 f1 i) = 1#1 then (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f2).1 else g11a)
    (e18 : g18 = if h : endCond i = 1#1 then (endRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  g17).1 else f18)
    (e12 : g12 = if h : k0_cond5 i = 1#1 then (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (BitVec.ofNat 32 (i 0).val) (finalBatchWord i) h f1 f8 f9 f10 g18).1.1 else f12)
    (e13 : g13 = if h : k0_cond5 i = 1#1 then (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (BitVec.ofNat 32 (i 0).val) (finalBatchWord i) h f1 f8 f9 f10 g18).1.2 else f13)
    (E : Set ℕ) (Q : PUnit → sProp 𝕄) :
    iprop((arg1.view.loc (c : Thread nD τ) ↦{q} f1) ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ (∃ f, pt c arg19 f)
        ∗ (iprop((arg1.view.loc (c : Thread nD τ) ↦{q} f1) ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 g11 ∗ pt c arg12 g12 ∗ pt c arg13 g13 ∗ pt c arg14 g14 ∗ pt c arg15 g15 ∗ pt c arg16 g16 ∗ pt c arg17 g17 ∗ pt c arg18 g18 ∗ (∃ f, pt c arg19 f)) -∗ Q ⟨⟩))
      ⊢ wp frame (wpE (defs₀ (F := F)) Variants.none c none) E (cc0_carry_correction (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [root_eq_blocks]
  unfold rootBlocks
  iintro ⟨H1, H2, H3, H4, H5, H6, H7, H8, H9, H10, H11, H12, H13, H14, H15, H16, H17, H18, H19, Hk⟩
  rw [wp_bind]
  unfold smemLoad
  iapply (wp_smemLoadElt Variants.none (c : Thread nD τ) none E (m := arg1) (r := Rect.unit (s := S3) (k0_off2 i) S1.size (k0_off2_inb i)) (q := q) (f := f1) (S := Finset.univ) (Finset.subset_univ _)) $$ H1
  iintro H1
  sl_step
  rw [wp_bind]
  iapply (guarded_start c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q f6 f7 f16 f17 f14 f15 g16 g17a g14 g15 e16 e17a e14 e15 E _)
  isplitl [H6]; · iexact H6
  isplitl [H7]; · iexact H7
  isplitl [H16]; · iexact H16
  isplitl [H17]; · iexact H17
  isplitl [H14]; · iexact H14
  isplitl [H15]; · iexact H15
  iintro ⟨H6, H7, H16, H17, H14, H15⟩
  rw [wp_bind]
  iapply (guarded_correct c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (chunkWord i) (smemWord c arg1 f1 i) f2 f3 f4 f5 g14 g15 g16 g17a f11 g17 g11a e17 e11a E _)
  isplitl [H2]; · iexact H2
  isplitl [H3]; · iexact H3
  isplitl [H4]; · iexact H4
  isplitl [H5]; · iexact H5
  isplitl [H14]; · iexact H14
  isplitl [H15]; · iexact H15
  isplitl [H16]; · iexact H16
  isplitl [H17]; · iexact H17
  isplitl [H11]; · iexact H11
  isplitl [H19]; · iexact H19
  iintro ⟨H2, H3, H4, H5, H14, H15, H16, H17, H11, H19⟩
  rw [wp_bind]
  iapply (guarded_copy c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (smemWord c arg1 f1 i) f2 g11a g11 e11 E _)
  isplitl [H2]; · iexact H2
  isplitl [H11]; · iexact H11
  iintro ⟨H2, H11⟩
  rw [wp_bind]
  iapply (guarded_end c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q g17 f18 g18 e18 E _)
  isplitl [H17]; · iexact H17
  isplitl [H18]; · iexact H18
  iintro ⟨H17, H18⟩
  rw [wp_bind]
  iapply (guarded_final c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (BitVec.ofNat 32 (i 0).val) (finalBatchWord i) f1 f8 f9 f10 g18 f12 f13 g12 g13 e12 e13 E _)
  isplitl [H1]; · iexact H1
  isplitl [H8]; · iexact H8
  isplitl [H9]; · iexact H9
  isplitl [H10]; · iexact H10
  isplitl [H18]; · iexact H18
  isplitl [H12]; · iexact H12
  isplitl [H13]; · iexact H13
  iintro ⟨H1, H8, H9, H10, H18, H12, H13⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.Kernel.Gen

end
-- ==== Proof.Kit.lean ====
/-
  The program around its kernel call: what the call finds in each array, the prefetched table and why every block it
  selects lies inside its array, and the frame claim from a run of the call.
-/
module

public import proofs.«01_k».proof.Proof.Blocks
public import proofs.«01_k».proof.Proof.Gen.Kernel.Launch
public import Idealize.ShloMosaic.Lib.Affine
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

/-- The operations before the call allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl

/-! ## The live block index -/

/-- The block index the table-reading windows use: the chunk, or the batch's last live chunk before it. -/
def liveWord (n w : BitVec 32) : BitVec 32 :=
  Scalar.minsi (Scalar.subi (Scalar.minsi n 95#32) (Scalar.muli (Scalar.divsi (Scalar.minsi n 95#32) 32#32) 32#32))
    (Scalar.divsi (Scalar.subi (Scalar.minsi 8192#32 (Scalar.maxsi 1#32 w)) 1#32) 256#32)

/-- That index in closed form. -/
theorem liveWord_isInt (n : Nat) (hn : n < 101) (w : BitVec 32) :
    Affine.IsInt (liveWord (BitVec.ofNat 32 n) w) (min ((min n 95 % 32 : Nat) : Int) ((min 8192 (max 1 w.toInt) - 1) / 256)) := by
  have hr := Affine.word_range w
  have h0 : Affine.IsInt (Scalar.minsi (BitVec.ofNat 32 n) 95#32) ((min n 95 : Nat) : Int) :=
    Affine.minsi (Affine.ofNat (e := (n : Int)) n ⟨rfl, by omega⟩) (Affine.ofNat (e := 95) 95 ⟨rfl, by decide⟩) (by omega)
  have h1 : Affine.IsInt (Scalar.divsi (Scalar.minsi (BitVec.ofNat 32 n) 95#32) 32#32) ((min n 95 / 32 : Nat) : Int) :=
    Affine.divsi h0 (Affine.ofNat (e := 32) 32 ⟨rfl, by decide⟩) ⟨Int.natCast_ediv _ 32, by omega, by decide⟩
  have h2 := Affine.muli h1 (Affine.ofNat (e := 32) 32 ⟨rfl, by decide⟩) (e := ((min n 95 / 32 * 32 : Nat) : Int)) (by push_cast; omega)
  have h3 := Affine.subi h0 h2 (e := ((min n 95 % 32 : Nat) : Int)) (by push_cast; omega)
  have h4 := Affine.maxsi (Affine.ofNat (e := 1) 1 ⟨rfl, by decide⟩) (Affine.word w) rfl
  have h5 := Affine.minsi (Affine.ofNat (e := 8192) 8192 ⟨rfl, by decide⟩) h4 rfl
  have h6 := Affine.subi h5 (Affine.ofNat (e := 1) 1 ⟨rfl, by decide⟩) (e := min 8192 (max 1 w.toInt) - 1) (by omega)
  have h7 := Affine.divsi h6 (Affine.ofNat (e := 256) 256 ⟨rfl, by decide⟩) (e := (min 8192 (max 1 w.toInt) - 1) / 256) (by omega)
  exact Affine.minsi h3 h7 rfl

/-- The batch a grid point reads from, in closed form. -/
theorem batchWord_isInt (n : Nat) (hn : n < 101) :
    Affine.IsInt (Scalar.divsi (Scalar.minsi (BitVec.ofNat 32 n) 95#32) 32#32) ((min n 95 / 32 : Nat) : Int) := by
  have h0 : Affine.IsInt (Scalar.minsi (BitVec.ofNat 32 n) 95#32) ((min n 95 : Nat) : Int) :=
    Affine.minsi (Affine.ofNat (e := (n : Int)) n ⟨rfl, by omega⟩) (Affine.ofNat (e := 95) 95 ⟨rfl, by decide⟩) (by omega)
  exact Affine.divsi h0 (Affine.ofNat (e := 32) 32 ⟨rfl, by decide⟩) ⟨Int.natCast_ediv _ 32, by omega, by decide⟩

/-- A step's number is below 101. -/
theorem coord_lt (i : grid0.Coords) : (i 0).val < 101 := (i 0).isLt

/-- Every block the two table-reading windows name lies inside its array, whatever the table holds. -/
theorem ok (pf : pre0.Contents (Elt F)) : ok0 (F := F) pf := by
  refine ⟨fun i => ?_, fun i => ?_⟩
  · refine ⟨?_, .inr (Affine.block_words_dvd (of_decide_eq_true rfl) (by decide))⟩
    have hi := coord_lt i
    unfold cc0_transform_1
    exact Affine.blk_cons (batchWord_isInt _ hi) (by push_cast; omega)
      (Affine.blk_cons (liveWord_isInt _ hi _) (by push_cast; omega) (Affine.blk_cons (Affine.ofNat (e := 0) 0 ⟨rfl, by decide⟩) (by decide) Affine.blk_nil))
  · refine ⟨?_, .inl rfl⟩
    have hi := coord_lt i
    unfold cc0_transform_2
    exact Affine.blk_cons (batchWord_isInt _ hi) (by push_cast; omega)
      (Affine.blk_cons (liveWord_isInt _ hi _) (by push_cast; omega) (Affine.blk_cons (Affine.ofNat (e := 0) 0 ⟨rfl, by decide⟩) (by decide) Affine.blk_nil))
/-- The tables' contents as ADMISSIBLE contents, and the pipeline at them: what the launch theorem runs
    (`θ_run_frameP`). -/
abbrev adm : (pcfg0 (F := F)).Adm := ⟨tbl m, ok _⟩
/-- The call's configuration at the launched table. -/
abbrev cfgM : Pipeline.Cfg sig Λ₀ := cfg0 (adm m)

/-- Each table as the body is handed it: its whole buffer as a memref, and that memref's wholeness. -/
abbrev tbM0_0 : Memref sig .tc .smem S3 .i32 := Memref.whole main_arg7
/-- The table is a whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table held at half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The frame claim's post from the run's -/

/-- A run that ends with the post of the frame run leaves every argument array as it was launched. -/
theorem args_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w)) {r : PUnit × MemSt nD τ sig (Elt F)}
    (h : Pipeline.RDat.FramePost ((Pipeline.pin pcfgs fun _ => adm m) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      ((h c).2 main_arg3 (by decide : main_arg3 ∈ Pipeline.restRefs sig spec0)).trans (V_main_arg3 m c),
      (Pipeline.RDat.FramePost.arr_in h c 6 rfl).trans ((hA c 6).trans (V_main_arg4 m c)),
      (Pipeline.RDat.FramePost.arr_in h c 7 rfl).trans ((hA c 7).trans (V_main_arg5 m c)),
      (Pipeline.RDat.FramePost.arr_in h c 8 rfl).trans ((hA c 8).trans (V_main_arg6 m c)),
      ((h c).2 main_arg7 (by decide : main_arg7 ∈ Pipeline.restRefs sig spec0)).trans (V_main_arg7 m c)⟩

/-! ## The kernel body at a grid point -/

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_carry_correction (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.Kernel.Gen

end
-- ==== Proof.Frame.lean ====
/-
  The frame of the program: it runs from any launch state, faults nowhere, and leaves its argument arrays as launched.
  The body's contract here says of its inputs that it leaves them as it found them, and nothing of its outputs.
-/
module

public import proofs.«01_k».proof.Proof.Body
public import proofs.«01_k».proof.Proof.Kit
public import Idealize.ShloMosaic.Lib.Affine
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Owning a whole memref at contents `X` is holding its buffer at something that reads `X`. -/
theorem owns_whole (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns; rw [hM.set_eq_univ]

/-- A whole buffer held at some contents is owned with some value. -/
theorem owns_of_pt (c : Dev nD) {sp : Space} {S : Shape} {e : EltTy} (M : Memref sig .tc sp S e) (hM : M.IsWhole) (f : Bf (F := F) c M) :
    (pt c M f : sProp 𝕄) ⊢ iprop(∃ X, owns (c : Thread nD τ) M fullShare X) := by
  iintro H
  iexists (M.view.read (Elt F) f)
  rw [owns_whole c M hM]
  iexists f
  isplitr; · ipureintro; rfl
  iexact H

set_option maxHeartbeats 1000000 in
/-- The body over owned windows, nothing said of what it writes. -/
theorem bodyOwns (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (f1 : Bf (F := F) c arg1) (X2 : S1x256x11520.Idx → Elt F .bf16) (X3 : S1x256x1024.Idx → Elt F .bf16) (X4 : S1x256x120.Idx → Elt F .f32) (X5 : S1x120.Idx → Elt F .f32) (X6 : S1x11520x128.Idx → Elt F .fp8e4m3) (X7 : S1x120x96.Idx → Elt F .f32) (X8 : S1x24x96x128.Idx → Elt F .fp8e4m3) (X9 : S1x24x96.Idx → Elt F .f32) (X10 : S1x24x96x128.Idx → Elt F .f32) (X11 : S1x256x11520.Idx → Elt F .bf16) (X12 : S1x24x96x128.Idx → Elt F .fp8e4m3) (X13 : S1x24x96.Idx → Elt F .f32)
    (E : Set ℕ) (Q : PUnit → sProp 𝕄) :
    iprop((arg1.view.loc (c : Thread nD τ) ↦{q} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ (∃ f, pt c arg14 f) ∗ (∃ f, pt c arg15 f) ∗ (∃ f, pt c arg16 f) ∗ (∃ f, pt c arg17 f) ∗ (∃ f, pt c arg18 f) ∗ (∃ f, pt c arg19 f)
        ∗ (iprop((arg1.view.loc (c : Thread nD τ) ↦{q} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg11 fullShare X) ∗ (∃ X, owns (c : Thread nD τ) arg12 fullShare X) ∗ (∃ X, owns (c : Thread nD τ) arg13 fullShare X) ∗ (∃ f, pt c arg14 f) ∗ (∃ f, pt c arg15 f) ∗ (∃ f, pt c arg16 f) ∗ (∃ f, pt c arg17 f) ∗ (∃ f, pt c arg18 f) ∗ (∃ f, pt c arg19 f)) -∗ Q ⟨⟩))
      ⊢ wp frame (wpE (defs₀ (F := F)) Variants.none c none) E (cc0_carry_correction (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [owns_whole c arg2 harg2 X2, owns_whole c arg3 harg3 X3, owns_whole c arg4 harg4 X4, owns_whole c arg5 harg5 X5, owns_whole c arg6 harg6 X6, owns_whole c arg7 harg7 X7, owns_whole c arg8 harg8 X8, owns_whole c arg9 harg9 X9, owns_whole c arg10 harg10 X10, owns_whole c arg11 harg11 X11, owns_whole c arg12 harg12 X12, owns_whole c arg13 harg13 X13]
  iintro ⟨H1, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, H14⟩, ⟨%f15, H15⟩, ⟨%f16, H16⟩, ⟨%f17, H17⟩, ⟨%f18, H18⟩, H19, Hk⟩
  iapply (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q f1 f2 f3 f4 f5 f6 f7 f8 f9 f10 f11 f12 f13 f14 f15 f16 f17 f18 _ _ _ _ _ _ _ _ _ _ rfl rfl rfl rfl rfl rfl rfl rfl rfl rfl E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  iapply Hk
  isplitl [H1]; · iexact H1
  isplitl [H2]; · (iexists f2; isplitr; (ipureintro; exact e2); iexact H2)
  isplitl [H3]; · (iexists f3; isplitr; (ipureintro; exact e3); iexact H3)
  isplitl [H4]; · (iexists f4; isplitr; (ipureintro; exact e4); iexact H4)
  isplitl [H5]; · (iexists f5; isplitr; (ipureintro; exact e5); iexact H5)
  isplitl [H6]; · (iexists f6; isplitr; (ipureintro; exact e6); iexact H6)
  isplitl [H7]; · (iexists f7; isplitr; (ipureintro; exact e7); iexact H7)
  isplitl [H8]; · (iexists f8; isplitr; (ipureintro; exact e8); iexact H8)
  isplitl [H9]; · (iexists f9; isplitr; (ipureintro; exact e9); iexact H9)
  isplitl [H10]; · (iexists f10; isplitr; (ipureintro; exact e10); iexact H10)
  isplitl [H11]; · iapply (owns_of_pt c arg11 harg11 _); iexact H11
  isplitl [H12]; · iapply (owns_of_pt c arg12 harg12 _); iexact H12
  isplitl [H13]; · iapply (owns_of_pt c arg13 harg13 _); iexact H13
  isplitl [H14]; · iexists _; iexact H14
  isplitl [H15]; · iexists _; iexact H15
  isplitl [H16]; · iexists _; iexact H16
  isplitl [H17]; · iexists _; iexact H17
  isplitl [H18]; · iexists _; iexact H18
  iexact H19

/-- The proof data of the frame. -/
def rdat (c : Dev nD) : RDat τ (Elt F) Unit ℕ (UR sig nD τ) ℕ ((Pipeline.pin pcfgs fun _ => adm m) 0) c where
  A w := V m c (Pipeline.arrRef spec0 w)
  after w _ Y X := (spec0 w).isOut = false → X = Y
  Φ _ := iprop(Pipeline.ΦA spec0 c ∗ Pipeline.ΦT pre0 (tbl m) c)
  q := Pipeline.shareOf spec0
  owed _ := 0

/-- The invariant from its parts. -/
theorem phi_close (c : Dev nD) :
    iprop((∃ f, pt (F := F) c (Memref.whole cc0_scratch0) f) ∗ (∃ f, pt (F := F) c (Memref.whole cc0_scratch1) f) ∗ (∃ f, pt (F := F) c (Memref.whole cc0_scratch2) f)
        ∗ (∃ f, pt (F := F) c (Memref.whole cc0_scratch3) f) ∗ (∃ f, pt (F := F) c (Memref.whole cc0_scratch4) f) ∗ (∃ f, pt (F := F) c (Memref.whole cc0_scratch5) f)
        ∗ (∃ r, prngReg c r) ∗ tbPt0 c tbM0_0 (tbl m 0))
      ⊢ (iprop(Pipeline.ΦA spec0 c ∗ Pipeline.ΦT pre0 (tbl m) c) : sProp 𝕄) := by
  rw [PhiT0_eq]; unfold Pipeline.ΦA; rw [scopedRest0_eq]
  iintro ⟨S0, S1, S2, S3, S4, S5, Hr, HT⟩
  isplitl [S0 S1 S2 S3 S4 S5 Hr]
  · isplitl [S0 S1 S2 S3 S4 S5]
    · isplitl [S0]; · iexact S0
      isplitl [S1]; · iexact S1
      isplitl [S2]; · iexact S2
      isplitl [S3]; · iexact S3
      isplitl [S4]; · iexact S4
      iexact S5
    · iexact Hr
  · iexact HT

/-- The procedure table's row at the body label: the call the pipeline makes at a point is `bodyAt0`. -/
theorem defs₀_row (t : Fin (cfgM m).N) :
    (defs₀ (F := F)) .tc (cfgM m).body ((cfgM m).bodyArgs t ((cfgM m).slots t)) = bodyAt0 (adm m) t := by
  unfold defs₀; rw [Defs.onTc_tc]

set_option maxHeartbeats 1000000 in
/-- One step of the grid runs without fault and leaves what the frame's data ask. -/
theorem body (c : Dev nD) : (rdat m c).BodyObligation (defs₀ (F := F)) Variants.none () Set.univ := by
  intro t Y _
  rw [bigSep_W0, bigSep_W0]
  refine Eq.mpr (congrArg (fun p => _ ⊢ wp frame (wpE (defs₀ (F := F)) Variants.none c none) Set.univ p _) (defs₀_row m t).symm) ?_
  show iprop(iprop(Pipeline.ΦA spec0 c ∗ Pipeline.ΦT pre0 (tbl m) c) ∗ _ ∗ _) ⊢ _
  rw [PhiT0_eq]
  unfold Pipeline.ΦA
  rw [scopedRest0_eq]
  iintro ⟨⟨⟨⟨⟨%f14, S0⟩, ⟨%f15, S1⟩, ⟨%f16, S2⟩, ⟨%f17, S3⟩, ⟨%f18, S4⟩, S5⟩, Hr⟩, HT⟩, Ho, H0, H1, H2, H3, H4, H5, H6, H7, H8, H9, H10, H11⟩
  iapply (bodyOwns c (grid0.coords t) _ _ _ _ _ _ _ _ _ _ _ _ _ _ _ _ _ _ _ _ _ _ _ _ _ _ _ _ _ _ _ _ _ _ _ _ _ _ fullShare.right (tbl m 0) (Y 0) (Y 1) (Y 2) (Y 3) (Y 4) (Y 5) (Y 6) (Y 7) (Y 8) (Y 9) (Y 10) (Y 11) Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexists _; iexact S0
  isplitl [S1]; · iexists _; iexact S1
  isplitl [S2]; · iexists _; iexact S2
  isplitl [S3]; · iexists _; iexact S3
  isplitl [S4]; · iexists _; iexact S4
  isplitl [S5]; · iexact S5
  iintro ⟨HT, H0, H1, H2, H3, H4, H5, H6, H7, H8, H9, H10, H11, S0, S1, S2, S3, S4, S5⟩
  isplitl [HT S0 S1 S2 S3 S4 S5 Hr]
  · iapply (show _ ⊢ (rdat m c).Φ t.succ from phi_close m c)
    isplitl [S0]; · iexact S0
    isplitl [S1]; · iexact S1
    isplitl [S2]; · iexact S2
    isplitl [S3]; · iexact S3
    isplitl [S4]; · iexact S4
    isplitl [S5]; · iexact S5
    isplitl [Hr]; · iexact Hr
    iexact HT
  isplitl [Ho]; · iexact Ho
  isplitl [H0]; · (iexists (Y 0); isplitr; (ipureintro; exact fun _ => rfl); iexact H0)
  isplitl [H1]; · (iexists (Y 1); isplitr; (ipureintro; exact fun _ => rfl); iexact H1)
  isplitl [H2]; · (iexists (Y 2); isplitr; (ipureintro; exact fun _ => rfl); iexact H2)
  isplitl [H3]; · (iexists (Y 3); isplitr; (ipureintro; exact fun _ => rfl); iexact H3)
  isplitl [H4]; · (iexists (Y 4); isplitr; (ipureintro; exact fun _ => rfl); iexact H4)
  isplitl [H5]; · (iexists (Y 5); isplitr; (ipureintro; exact fun _ => rfl); iexact H5)
  isplitl [H6]; · (iexists (Y 6); isplitr; (ipureintro; exact fun _ => rfl); iexact H6)
  isplitl [H7]; · (iexists (Y 7); isplitr; (ipureintro; exact fun _ => rfl); iexact H7)
  isplitl [H8]; · (iexists (Y 8); isplitr; (ipureintro; exact fun _ => rfl); iexact H8)
  isplitl [H9]; · (icases H9 with ⟨%X, H9⟩; iexists X; isplitr; (ipureintro; exact fun h => absurd h (by decide)); iexact H9)
  isplitl [H10]; · (icases H10 with ⟨%X, H10⟩; iexists X; isplitr; (ipureintro; exact fun h => absurd h (by decide)); iexact H10)
  (icases H11 with ⟨%X, H11⟩; iexists X; isplitr; (ipureintro; exact fun h => absurd h (by decide)); iexact H11)

/-- The kernel runs, ends with no semaphore raised, and leaves its arguments as launched. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.RDat.θ_run_frameP_track_shared pcfgs (fun _ => adm m) 0 launch₀0 defs₀ Variants.none (rdat m) m ρ (main (F := F))
    (fun c => body m c) (fun _ _ _ => rfl) (fun _ _ => rfl) (V m) (hmain m Variants.none) (fun _ _ => rfl) (V_pre m)
    (fun _ => .rfl) (fun c => (show iprop(Pipeline.ΦA spec0 c ∗ Pipeline.ΦT pre0 (tbl m) c) ⊢ Pipeline.ΦA spec0 c from by iintro ⟨H, -⟩; iexact H)) (Q' := _)
    (hQ' := fun r h => ⟨args_of m (rdat m) (fun _ _ => rfl) h.1, h.2⟩)

end Cert.Kernel.Gen

end
-- ==== Proof.IdealBlocks.lean ====
/-
  The kernel body as five blocks, one per guarded region of its text. Each block is a program of its own here, so that each
  gets a triple of its own.
-/
module

public import proofs.«01_k».proof.Proof.Gen.KernelIdeal
public import proofs.«01_k».proof.Proof.Gen.KernelIdeal.Skeleton
public import Idealize.ShloMosaic.Lib.Pipeline.Kit
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- A buffer's contents type on core `c`. -/
abbrev Bf (c : Dev nD) {sp : Space} {S : Shape} {e : EltTy} (M : Memref sig .tc sp S e) : Type := Buf (Elt F) (M.view.loc (c : Thread nD τ))
/-- The buffer held whole at given contents. -/
abbrev pt (c : Dev nD) {sp : Space} {S : Shape} {e : EltTy} (M : Memref sig .tc sp S e) (f : Bf (F := F) c M) : sProp 𝕄 :=
  M.view.loc (c : Thread nD τ) ↦{fullShare} f

/-- What the kernel does at the first chunk of a batch: clear the carry, keep the decoded state codes, lay out the scales. -/
def startBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)  :
    Prog (TpuEff nD τ sig (Elt F) Λ₀ .tc) PUnit := do
  let ⟨v51, v63⟩ : Σ' (v51 : FVec F S30x96 .f32), FVec F S30x32 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v92, v95, v97, cst_46⟩ : Σ' (v92 : FVec F S256x128 .f32) (v95 : IVec S256x128 32) (v97 : IVec S256x128 1), F .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v51 v63
  let v130 : FVec F S256x128 .bf16 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v92 v95 v97 cst_46
  let ⟨v158, v161, v166⟩ : Σ' (v158 : FVec F S256x128 .f32) (v161 : IVec S256x128 32), FVec F S256x128 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v130
  let v200 : Vec F S1x256x128 .fp8e4m3 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v158 v161 v166
  let v211 : Vec F S1x256x128 .bf16 ← Prog.lift (.load arg15 (Rect.unit (s := S7x256x256) ![6, 0, 0] S1x256x128.size inb_S7x256x256_S1x256x128_6_0_0).toLoadRect (View.loadsAt_vmem h_S1x256x128))
  Prog.lift (.store arg15 (Rect.unit (s := S7x256x256) ![6, 0, 0] S1x256x128.size inb_S7x256x256_S1x256x128_6_0_0) (k0_pay3 v200) Finset.univ (View.stores_vmem h_S1x256x128 (harg15.storeExact_slice rfl _ packedbf16_S7x256x256_S1x256x128_6_0_0) (fun _ => rfl)) (.inl rfl))
  let v219 : Vec F S1x256x128 .bf16 ← Prog.lift (.load arg15 (Rect.unit (s := S7x256x256) ![6, 0, 128] S1x256x128.size inb_S7x256x256_S1x256x128_6_0_128).toLoadRect (View.loadsAt_vmem h_S1x256x128))
  Prog.lift (.store arg15 (Rect.unit (s := S7x256x256) ![6, 0, 128] S1x256x128.size inb_S7x256x256_S1x256x128_6_0_128) (k0_pay4 v200) Finset.univ (View.stores_vmem h_S1x256x128 (harg15.storeExact_slice rfl _ packedbf16_S7x256x256_S1x256x128_6_0_128) (fun _ => rfl)) (.inl rfl))
  pure ⟨⟩

/-- What the kernel does at a chunk with a live token: the decay and the ninety column slices of the result. -/
def correctBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (v4 : BitVec 32) (v6 : Elt F .i32) :
    Prog (TpuEff nD τ sig (Elt F) Λ₀ .tc) PUnit := do
  let ⟨v244, v249, v253, v257, v2296, v2321⟩ : Σ' (v244 : FVec F S256x128 .f32) (v249 : IVec S256x128 32) (v253 : IVec S256x128 32) (v257 : IVec S256x128 32) (v2296 : FVec F S256x256 .f32), IVec S256x128 32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6
  let ⟨v2348, v2358, v2359⟩ : Σ' (v2348 : FVec F S256x256 .f32) (v2358 : FVec F S256x128 .f32), FVec F S256x128 .f32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v253 v257 v2296 v2321
  k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v249 v2348 v2358 v2359
  let ⟨v2434, v2435⟩ : Σ' (v2434 : FVec F S256x128 .f32), FVec F S256x128 .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v253 v257
  let ⟨v2452, v2468, v2470⟩ : Σ' (v2452 : FVec F S256x256 .f32) (v2468 : FVec F S256x128 .f32), FVec F S256x128 .bf16 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v249 v2434 v2435
  let ⟨v2504, v2506⟩ : Σ' (v2504 : FVec F S256x256 .f32), IVec S256x128 32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v253 v257 v2452 v2468 v2470
  let ⟨v2544, v2545⟩ : Σ' (v2544 : FVec F S256x128 .f32), Vec F S1x256x128 .bf16 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v249 v2504 v2506
  let ⟨v2556, v2581⟩ : Σ' (v2556 : FVec F S256x256 .f32), IVec S256x128 32 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v244 v253 v2544 v2545
  let v2592 : Vec F S1x1x128 .f32 ← Prog.lift (.load arg16 (Rect.unit (s := S3x32x128) ![2, 29, 0] S1x1x128.size inb_S3x32x128_S1x1x128_2_29_0).toLoadRect (View.loadsAt_vmem h_S1x1x128))
  let v2597 : Vec F S1x256x128 .bf16 ← Prog.lift (.load arg2 (Rect.unit (s := S1x256x11520) ![0, 0, 11392] S1x256x128.size inb_S1x256x11520_S1x256x128_0_0_11392).toLoadRect (View.loadsAt_vmem h_S1x256x128))
  let v2602 : Vec F S1x256x128 .bf16 ← Prog.lift (.load arg11 (Rect.unit (s := S1x256x11520) ![0, 0, 11392] S1x256x128.size inb_S1x256x11520_S1x256x128_0_0_11392).toLoadRect (View.loadsAt_vmem h_S1x256x128))
  Prog.lift (.store arg11 (Rect.unit (s := S1x256x11520) ![0, 0, 11392] S1x256x128.size inb_S1x256x11520_S1x256x128_0_0_11392) (k0_pay5 v244 v257 v2556 v2581 v2592 v2597) Finset.univ (View.stores_vmem h_S1x256x128 (harg11.storeExact_slice rfl _ packedbf16_S1x256x11520_S1x256x128_0_0_11392) (fun _ => rfl)) (.inl rfl))
  pure ⟨⟩

/-- What the kernel does at a chunk with no live token: copy the local result. -/
def copyBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)  :
    Prog (TpuEff nD τ sig (Elt F) Λ₀ .tc) PUnit := do
  let v34 : Vec F S1x256x11520 .bf16 ← Prog.lift (.load arg2 (Rect.unit (s := S1x256x11520) ![0, 0, 0] S1x256x11520.size inb_S1x256x11520_S1x256x11520_0_0_0).toLoadRect (View.loadsAt_vmem h_S1x256x11520))
  let v35 : Vec F S1x256x11520 .bf16 ← Prog.lift (.load arg11 (Rect.unit (s := S1x256x11520) ![0, 0, 0] S1x256x11520.size inb_S1x256x11520_S1x256x11520_0_0_0).toLoadRect (View.loadsAt_vmem h_S1x256x11520))
  Prog.lift (.store arg11 (Rect.unit (s := S1x256x11520) ![0, 0, 0] S1x256x11520.size inb_S1x256x11520_S1x256x11520_0_0_0) v34 Finset.univ (View.stores_vmem h_S1x256x11520 (harg11.storeExact_slice rfl _ packedbf16_S1x256x11520_S1x256x11520_0_0_0) (fun _ => rfl)) (.inl rfl))
  pure ⟨⟩

/-- What the kernel does at the last chunk of a batch: keep the total log-decay. -/
def endBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)  :
    Prog (TpuEff nD τ sig (Elt F) Λ₀ .tc) PUnit := do
  let v34 : Vec F S1x128 .f32 ← Prog.lift (.load arg17 (Rect.unit (s := S1x128) ![0, 0] S1x128.size inb_S1x128_S1x128_0_0).toLoadRect (View.loadsAt_vmem h_S1x128))
  let v37 : Vec F S8x128 .f32 ← Prog.lift (.load arg18 (Rect.unit (s := S8x128) ![0, 0] S8x128.size inb_S8x128_S8x128_0_0).toLoadRect (View.loadsAt_vmem h_S8x128))
  Prog.lift (.store arg18 (Rect.unit (s := S8x128) ![0, 0] S8x128.size inb_S8x128_S8x128_0_0) (k0_pay6 v34) Finset.univ (View.stores_vmem_bits_univ h_S8x128 rfl) (.inl rfl))
  pure ⟨⟩

/-- What the kernel does at a step that writes final states: decay, add and quantise 24 heads. -/
def finalBlock (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (arg0 : BitVec 32) (v25 : BitVec 32) (k0_h5 : k0_cond5 i = 1#1) :
    Prog (TpuEff nD τ sig (Elt F) Λ₀ .tc) PUnit := do
  let ⟨v2359, v2377, v2378⟩ : Σ' (v2359 : IVec S96x1 32) (v2377 : FVec F S96x128 .fp8e4m3), Vec F S1x1x96x128 .fp8e4m3 ← k0_part133 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v25 k0_h5
  Prog.lift (.store arg12 (Rect.unit (s := S1x24x96x128) ![0, 23, 0, 0] S1x1x96x128.size inb_S1x24x96x128_S1x1x96x128_0_23_0_0) (k0_pay7 v2377) Finset.univ (View.stores_vmem h_S1x1x96x128 (harg12.storeExact_slice rfl _ packedfp8e4m3_S1x24x96x128_S1x1x96x128_0_23_0_0) (fun _ => rfl)) (.inl rfl))
  let v2391 : Vec F S1x1x96 .f32 ← Prog.lift (.load arg13 (Rect.unit (s := S1x24x96) ![0, 23, 0] S1x1x96.size inb_S1x24x96_S1x1x96_0_23_0).toLoadRect (View.loadsAt_vmem h_S1x1x96))
  Prog.lift (.store arg13 (Rect.unit (s := S1x24x96) ![0, 23, 0] S1x1x96.size inb_S1x24x96_S1x1x96_0_23_0) (k0_pay8 (F := F) v2359) Finset.univ (View.stores_vmem_bits_univ h_S1x1x96 rfl) (.inl rfl))
  pure ⟨⟩

/-- The chunk's index in its batch, at the steps that correct the result. -/
abbrev chunkWord (i : grid0.Coords) : BitVec 32 :=
  Scalar.subi (BitVec.ofNat 32 (i 0).val) (Scalar.muli (Scalar.minsi (Scalar.divsi (BitVec.ofNat 32 (i 0).val) 32#32) 2#32) 32#32)
/-- The first chunk of a batch. -/
abbrev startCond (i : grid0.Coords) : BitVec 1 := Scalar.cmpi .ne (Scalar.extui (Scalar.andi (Scalar.cmpi .slt (BitVec.ofNat 32 (i 0).val) 96#32) (Scalar.cmpi .eq (chunkWord i) 0#32))) 0#32
/-- The last chunk of a batch. -/
abbrev endCond (i : grid0.Coords) : BitVec 1 := Scalar.cmpi .ne (Scalar.extui (Scalar.andi (Scalar.cmpi .slt (BitVec.ofNat 32 (i 0).val) 96#32) (Scalar.cmpi .eq (chunkWord i) 31#32))) 0#32
/-- The batch whose final states a step writes. -/
abbrev finalBatchWord (i : grid0.Coords) : BitVec 32 := Scalar.subi (Scalar.divsi (BitVec.ofNat 32 (i 0).val) 32#32) 1#32

/-- The kernel body over its five blocks: each runs at the steps its printed condition names. -/
def rootBlocks (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) :
    Prog (TpuEff nD τ sig (Elt F) Λ₀ .tc) PUnit := do
  let v6 : Elt F .i32 ← smemLoad arg1 (Rect.unit (s := S3) (k0_off2 i) S1.size (k0_off2_inb i)) numel1_S1 rfl
  (if k0_h1 : startCond i = 1#1 then startBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 else pure ⟨⟩ : Prog (TpuEff nD τ sig (Elt F) Λ₀ .tc) PUnit)
  (if k0_h2 : k0_cond2 i v6 = 1#1 then correctBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) v6 else pure ⟨⟩ : Prog (TpuEff nD τ sig (Elt F) Λ₀ .tc) PUnit)
  (if k0_h3 : k0_cond3 i v6 = 1#1 then copyBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 else pure ⟨⟩ : Prog (TpuEff nD τ sig (Elt F) Λ₀ .tc) PUnit)
  (if k0_h4 : endCond i = 1#1 then endBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 else pure ⟨⟩ : Prog (TpuEff nD τ sig (Elt F) Λ₀ .tc) PUnit)
  (if k0_h5 : k0_cond5 i = 1#1 then finalBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (finalBatchWord i) k0_h5 else pure ⟨⟩ : Prog (TpuEff nD τ sig (Elt F) Λ₀ .tc) PUnit)
  pure ⟨⟩

/-- A guarded region followed by the rest, when the text has the rest inside both branches. -/
theorem guarded_then {c : Prop} [Decidable c] {A : c → Prog (TpuEff nD τ sig (Elt F) Λ₀ .tc) PUnit} {k : PUnit → Prog (TpuEff nD τ sig (Elt F) Λ₀ .tc) PUnit}
    {B : c → Prog (TpuEff nD τ sig (Elt F) Λ₀ .tc) PUnit} {D : Prog (TpuEff nD τ sig (Elt F) Λ₀ .tc) PUnit}
    (hB : ∀ h, B h = A h >>= fun _ => D) (hD : D = k ⟨⟩) :
    (if h : c then B h else D) = ((if h : c then A h else pure ⟨⟩) >>= k) := by
  by_cases h : c
  · rw [dif_pos h, dif_pos h, hB h, hD]
  · rw [dif_neg h, dif_neg h, hD, pure_bind]

set_option maxRecDepth 65536 in
/-- The kernel body is that composition. -/
theorem root_eq_blocks : cc0_carry_correction (F := F) = rootBlocks (F := F) := by
  rw [cc0_carry_correction_eq_skeleton]
  funext _ _ _ _ _ _ _ _ _ _ _ _ _ _ _ _ _ _ _ _ _ _ _ _ _ _ _ _ _ _ _ _ _ _ _ _ _ _ _
  unfold cc0_carry_correction_skel rootBlocks
  dsimp only
  refine bind_congr fun v6 => ?_
  refine guarded_then (fun h => ?_) ?_
  · simp only [startBlock, bind_assoc, pure_bind]
  refine guarded_then (fun h => ?_) ?_
  · simp only [correctBlock, bind_assoc, pure_bind]
  refine guarded_then (fun h => ?_) ?_
  · simp only [copyBlock, bind_assoc, pure_bind]
  refine guarded_then (fun h => ?_) ?_
  · simp only [endBlock, bind_assoc, pure_bind]
  refine guarded_then (fun h => ?_) ?_
  · simp only [finalBlock, bind_assoc, pure_bind]
  rfl

end Cert.KernelIdeal.Gen

end
-- ==== Proof.IdealRunStart.lean ====
/-
  The run of a block of the kernel body.
-/
module

public import proofs.«01_k».proof.Proof.IdealBlocks
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The run of the start of a batch, with what it leaves. -/
def startRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)
    (f6 : Bf (F := F) c arg6) (f7 : Bf (F := F) c arg7) (f16 : Bf (F := F) c arg16) :
    { W : Bf (F := F) c arg16 × Bf (F := F) c arg17 × Bf (F := F) c arg14 × Bf (F := F) c arg15 //
      ∀ (f17 : Bf (F := F) c arg17) (f14 : Bf (F := F) c arg14) (f15 : Bf (F := F) c arg15) (E : Set ℕ) (Q : PUnit → sProp 𝕄),
        iprop(pt c arg6 f6 ∗ pt c arg7 f7 ∗ pt c arg16 f16 ∗ pt c arg17 f17 ∗ pt c arg14 f14 ∗ pt c arg15 f15
          ∗ (iprop(pt c arg6 f6 ∗ pt c arg7 f7 ∗ pt c arg16 W.1 ∗ pt c arg17 W.2.1 ∗ pt c arg14 W.2.2.1 ∗ pt c arg15 W.2.2.2) -∗ Q ⟨⟩))
        ⊢ wp frame (wpE (defs₀ (F := F)) Variants.none c none) E
            (startBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) Q } := by
  refine ⟨⟨?_, ?_, ?_, ?_⟩, fun f17 f14 f15 E Q => ?run⟩
  case run =>
    iintro ⟨H6, H7, H16, H17, H14, H15, Hk⟩
    unfold startBlock

    sl_exec_parts!
    sl_step
    iapply Hk
    isplitl [H6]; · iexact H6
    isplitl [H7]; · iexact H7
    isplitl [H16]; · iexact H16
    isplitl [H17]; · iexact H17
    isplitl [H14]; · iexact H14
    iexact H15

end Cert.KernelIdeal.Gen

end
-- ==== Proof.IdealRunCorrect.lean ====
/-
  The run of a block of the kernel body.
-/
module

public import proofs.«01_k».proof.Proof.IdealBlocks
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The correction's run, with what it leaves. -/
def correctRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (v4 : BitVec 32) (v6 : Elt F .i32)
    (f2 : Bf (F := F) c arg2) (f3 : Bf (F := F) c arg3) (f4 : Bf (F := F) c arg4) (f5 : Bf (F := F) c arg5) (f14 : Bf (F := F) c arg14) (f15 : Bf (F := F) c arg15) (f16 : Bf (F := F) c arg16) (f17 : Bf (F := F) c arg17) :
    { W : Bf (F := F) c arg17 × Bf (F := F) c arg11 //
      ∀ (f11 : Bf (F := F) c arg11) (f19 : Bf (F := F) c arg19) (E : Set ℕ) (Q : PUnit → sProp 𝕄),
        iprop(pt c arg2 f2 ∗ pt c arg3 f3 ∗ pt c arg4 f4 ∗ pt c arg5 f5 ∗ pt c arg14 f14 ∗ pt c arg15 f15 ∗ pt c arg16 f16 ∗ pt c arg17 f17 ∗ pt c arg11 f11 ∗ pt c arg19 f19
          ∗ (iprop(pt c arg2 f2 ∗ pt c arg3 f3 ∗ pt c arg4 f4 ∗ pt c arg5 f5 ∗ pt c arg14 f14 ∗ pt c arg15 f15 ∗ pt c arg16 f16 ∗ pt c arg17 W.1 ∗ pt c arg11 W.2 ∗ (∃ f, pt c arg19 f)) -∗ Q ⟨⟩))
        ⊢ wp frame (wpE (defs₀ (F := F)) Variants.none c none) E
            (correctBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6) Q } := by
  refine ⟨⟨?_, ?_⟩, fun f11 f19 E Q => ?run⟩
  case run =>
    iintro ⟨H2, H3, H4, H5, H14, H15, H16, H17, H11, H19, Hk⟩
    unfold correctBlock

    sl_exec_parts!
    sl_step
    iapply Hk
    isplitl [H2]; · iexact H2
    isplitl [H3]; · iexact H3
    isplitl [H4]; · iexact H4
    isplitl [H5]; · iexact H5
    isplitl [H14]; · iexact H14
    isplitl [H15]; · iexact H15
    isplitl [H16]; · iexact H16
    isplitl [H17]; · iexact H17
    isplitl [H11]; · iexact H11
    iexists _; iexact H19

end Cert.KernelIdeal.Gen

end
-- ==== Proof.IdealRunCopy.lean ====
/-
  The run of a block of the kernel body.
-/
module

public import proofs.«01_k».proof.Proof.IdealBlocks
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The copy's run, with what it leaves. -/
def copyRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)
    (f2 : Bf (F := F) c arg2) :
    { W : Bf (F := F) c arg11 //
      ∀ (f11 : Bf (F := F) c arg11) (E : Set ℕ) (Q : PUnit → sProp 𝕄),
        iprop(pt c arg2 f2 ∗ pt c arg11 f11
          ∗ (iprop(pt c arg2 f2 ∗ pt c arg11 W) -∗ Q ⟨⟩))
        ⊢ wp frame (wpE (defs₀ (F := F)) Variants.none c none) E
            (copyBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) Q } := by
  refine ⟨?_, fun f11 E Q => ?run⟩
  case run =>
    iintro ⟨H2, H11, Hk⟩
    unfold copyBlock

    sl_exec_parts!
    sl_step
    iapply Hk
    isplitl [H2]; · iexact H2
    iexact H11

/-- The run of the end of a batch, with what it leaves. -/
def endRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)
    (f17 : Bf (F := F) c arg17) :
    { W : Bf (F := F) c arg18 //
      ∀ (f18 : Bf (F := F) c arg18) (E : Set ℕ) (Q : PUnit → sProp 𝕄),
        iprop(pt c arg17 f17 ∗ pt c arg18 f18
          ∗ (iprop(pt c arg17 f17 ∗ pt c arg18 W) -∗ Q ⟨⟩))
        ⊢ wp frame (wpE (defs₀ (F := F)) Variants.none c none) E
            (endBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) Q } := by
  refine ⟨?_, fun f18 E Q => ?run⟩
  case run =>
    iintro ⟨H17, H18, Hk⟩
    unfold endBlock

    sl_exec_parts!
    sl_step
    iapply Hk
    isplitl [H17]; · iexact H17
    iexact H18

end Cert.KernelIdeal.Gen

end
-- ==== Proof.IdealRunFinal.lean ====
/-
  The run of a block of the kernel body.
-/
module

public import proofs.«01_k».proof.Proof.IdealBlocks
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The run of the final state, with what it leaves. -/
def finalRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (arg0 v25 : BitVec 32) (k0_h5 : k0_cond5 i = 1#1)
    (f1 : Bf (F := F) c arg1) (f8 : Bf (F := F) c arg8) (f9 : Bf (F := F) c arg9) (f10 : Bf (F := F) c arg10) (f18 : Bf (F := F) c arg18) :
    { W : Bf (F := F) c arg12 × Bf (F := F) c arg13 //
      ∀ (f12 : Bf (F := F) c arg12) (f13 : Bf (F := F) c arg13) (E : Set ℕ) (Q : PUnit → sProp 𝕄),
        iprop((arg1.view.loc (c : Thread nD τ) ↦{q} f1) ∗ pt c arg8 f8 ∗ pt c arg9 f9 ∗ pt c arg10 f10 ∗ pt c arg18 f18 ∗ pt c arg12 f12 ∗ pt c arg13 f13
          ∗ (iprop((arg1.view.loc (c : Thread nD τ) ↦{q} f1) ∗ pt c arg8 f8 ∗ pt c arg9 f9 ∗ pt c arg10 f10 ∗ pt c arg18 f18 ∗ pt c arg12 W.1 ∗ pt c arg13 W.2) -∗ Q ⟨⟩))
        ⊢ wp frame (wpE (defs₀ (F := F)) Variants.none c none) E
            (finalBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v25 k0_h5) Q } := by
  refine ⟨⟨?_, ?_⟩, fun f12 f13 E Q => ?run⟩
  case run =>
    iintro ⟨H1, H8, H9, H10, H18, H12, H13, Hk⟩
    unfold finalBlock

    sl_exec_parts!
    sl_step
    iapply Hk
    isplitl [H1]; · iexact H1
    isplitl [H8]; · iexact H8
    isplitl [H9]; · iexact H9
    isplitl [H10]; · iexact H10
    isplitl [H18]; · iexact H18
    isplitl [H12]; · iexact H12
    iexact H13

end Cert.KernelIdeal.Gen

end
-- ==== Proof.IdealBody.lean ====
/-
  The kernel body from its blocks.
-/
module

public import proofs.«01_k».proof.Proof.IdealRunStart
public import proofs.«01_k».proof.Proof.IdealRunCorrect
public import proofs.«01_k».proof.Proof.IdealRunCopy
public import proofs.«01_k».proof.Proof.IdealRunFinal
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

/-- The block of the first chunk under its guard: run where the guard holds, nothing changed where it does not. -/
theorem guarded_start (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare)
    (f6 : Bf (F := F) c arg6) (f7 : Bf (F := F) c arg7) (f16 : Bf (F := F) c arg16) (f17 : Bf (F := F) c arg17) (f14 : Bf (F := F) c arg14) (f15 : Bf (F := F) c arg15) (g16 : Bf (F := F) c arg16) (g17 : Bf (F := F) c arg17) (g14 : Bf (F := F) c arg14) (g15 : Bf (F := F) c arg15)
    (e16 : g16 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.1 else f16) (e17 : g17 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.1 else f17) (e14 : g14 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.1 else f14) (e15 : g15 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.2 else f15)
    (E : Set ℕ) (Q : PUnit → sProp 𝕄) :
    iprop(pt c arg6 f6 ∗ pt c arg7 f7 ∗ pt c arg16 f16 ∗ pt c arg17 f17 ∗ pt c arg14 f14 ∗ pt c arg15 f15
        ∗ (iprop(pt c arg6 f6 ∗ pt c arg7 f7 ∗ pt c arg16 g16 ∗ pt c arg17 g17 ∗ pt c arg14 g14 ∗ pt c arg15 g15) -∗ Q ⟨⟩))
      ⊢ wp frame (wpE (defs₀ (F := F)) Variants.none c none) E (if h : startCond i = 1#1 then startBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  else pure ⟨⟩) Q := by
  by_cases h : startCond i = 1#1
  · simp only [dif_pos h] at e16 e17 e14 e15 ⊢
    subst e16; subst e17; subst e14; subst e15
    iintro ⟨H6, H7, H16, H17, H14, H15, Hk⟩
    iapply (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).2 f17 f14 f15 E Q
    isplitl [H6]; · iexact H6
    isplitl [H7]; · iexact H7
    isplitl [H16]; · iexact H16
    isplitl [H17]; · iexact H17
    isplitl [H14]; · iexact H14
    isplitl [H15]; · iexact H15
    iexact Hk
  · simp only [dif_neg h] at e16 e17 e14 e15 ⊢
    subst e16; subst e17; subst e14; subst e15
    iintro ⟨H6, H7, H16, H17, H14, H15, Hk⟩
    sl_step
    iapply Hk
    isplitl [H6]; · iexact H6
    isplitl [H7]; · iexact H7
    isplitl [H16]; · iexact H16
    isplitl [H17]; · iexact H17
    isplitl [H14]; · iexact H14
    iexact H15

/-- The block of a live chunk under its guard: run where the guard holds, nothing changed where it does not. -/
theorem guarded_correct (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (v4 : BitVec 32) (v6 : Elt F .i32)
    (f2 : Bf (F := F) c arg2) (f3 : Bf (F := F) c arg3) (f4 : Bf (F := F) c arg4) (f5 : Bf (F := F) c arg5) (f14 : Bf (F := F) c arg14) (f15 : Bf (F := F) c arg15) (f16 : Bf (F := F) c arg16) (f17 : Bf (F := F) c arg17) (f11 : Bf (F := F) c arg11) (g17 : Bf (F := F) c arg17) (g11 : Bf (F := F) c arg11)
    (e17 : g17 = if h : k0_cond2 i v6 = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 f2 f3 f4 f5 f14 f15 f16 f17).1.1 else f17) (e11 : g11 = if h : k0_cond2 i v6 = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 f2 f3 f4 f5 f14 f15 f16 f17).1.2 else f11)
    (E : Set ℕ) (Q : PUnit → sProp 𝕄) :
    iprop(pt c arg2 f2 ∗ pt c arg3 f3 ∗ pt c arg4 f4 ∗ pt c arg5 f5 ∗ pt c arg14 f14 ∗ pt c arg15 f15 ∗ pt c arg16 f16 ∗ pt c arg17 f17 ∗ pt c arg11 f11 ∗ (∃ f, pt c arg19 f)
        ∗ (iprop(pt c arg2 f2 ∗ pt c arg3 f3 ∗ pt c arg4 f4 ∗ pt c arg5 f5 ∗ pt c arg14 f14 ∗ pt c arg15 f15 ∗ pt c arg16 f16 ∗ pt c arg17 g17 ∗ pt c arg11 g11 ∗ (∃ f, pt c arg19 f)) -∗ Q ⟨⟩))
      ⊢ wp frame (wpE (defs₀ (F := F)) Variants.none c none) E (if h : k0_cond2 i v6 = 1#1 then correctBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 else pure ⟨⟩) Q := by
  by_cases h : k0_cond2 i v6 = 1#1
  · simp only [dif_pos h] at e17 e11 ⊢
    subst e17; subst e11
    iintro ⟨H2, H3, H4, H5, H14, H15, H16, H17, H11, ⟨%f19, H19⟩, Hk⟩
    iapply (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 f2 f3 f4 f5 f14 f15 f16 f17).2 f11 f19 E Q
    isplitl [H2]; · iexact H2
    isplitl [H3]; · iexact H3
    isplitl [H4]; · iexact H4
    isplitl [H5]; · iexact H5
    isplitl [H14]; · iexact H14
    isplitl [H15]; · iexact H15
    isplitl [H16]; · iexact H16
    isplitl [H17]; · iexact H17
    isplitl [H11]; · iexact H11
    isplitl [H19]; · iexact H19
    iexact Hk
  · simp only [dif_neg h] at e17 e11 ⊢
    subst e17; subst e11
    iintro ⟨H2, H3, H4, H5, H14, H15, H16, H17, H11, H19, Hk⟩
    sl_step
    iapply Hk
    isplitl [H2]; · iexact H2
    isplitl [H3]; · iexact H3
    isplitl [H4]; · iexact H4
    isplitl [H5]; · iexact H5
    isplitl [H14]; · iexact H14
    isplitl [H15]; · iexact H15
    isplitl [H16]; · iexact H16
    isplitl [H17]; · iexact H17
    isplitl [H11]; · iexact H11
    iexact H19

/-- The block of a chunk with no live token under its guard: run where the guard holds, nothing changed where it does not. -/
theorem guarded_copy (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (v6 : Elt F .i32)
    (f2 : Bf (F := F) c arg2) (f11 : Bf (F := F) c arg11) (g11 : Bf (F := F) c arg11)
    (e11 : g11 = if h : k0_cond3 i v6 = 1#1 then (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f2).1 else f11)
    (E : Set ℕ) (Q : PUnit → sProp 𝕄) :
    iprop(pt c arg2 f2 ∗ pt c arg11 f11
        ∗ (iprop(pt c arg2 f2 ∗ pt c arg11 g11) -∗ Q ⟨⟩))
      ⊢ wp frame (wpE (defs₀ (F := F)) Variants.none c none) E (if h : k0_cond3 i v6 = 1#1 then copyBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  else pure ⟨⟩) Q := by
  by_cases h : k0_cond3 i v6 = 1#1
  · simp only [dif_pos h] at e11 ⊢
    subst e11
    iintro ⟨H2, H11, Hk⟩
    iapply (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f2).2 f11 E Q
    isplitl [H2]; · iexact H2
    isplitl [H11]; · iexact H11
    iexact Hk
  · simp only [dif_neg h] at e11 ⊢
    subst e11
    iintro ⟨H2, H11, Hk⟩
    sl_step
    iapply Hk
    isplitl [H2]; · iexact H2
    iexact H11

/-- The block of the last chunk under its guard: run where the guard holds, nothing changed where it does not. -/
theorem guarded_end (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare)
    (f17 : Bf (F := F) c arg17) (f18 : Bf (F := F) c arg18) (g18 : Bf (F := F) c arg18)
    (e18 : g18 = if h : endCond i = 1#1 then (endRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f17).1 else f18)
    (E : Set ℕ) (Q : PUnit → sProp 𝕄) :
    iprop(pt c arg17 f17 ∗ pt c arg18 f18
        ∗ (iprop(pt c arg17 f17 ∗ pt c arg18 g18) -∗ Q ⟨⟩))
      ⊢ wp frame (wpE (defs₀ (F := F)) Variants.none c none) E (if h : endCond i = 1#1 then endBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  else pure ⟨⟩) Q := by
  by_cases h : endCond i = 1#1
  · simp only [dif_pos h] at e18 ⊢
    subst e18
    iintro ⟨H17, H18, Hk⟩
    iapply (endRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f17).2 f18 E Q
    isplitl [H17]; · iexact H17
    isplitl [H18]; · iexact H18
    iexact Hk
  · simp only [dif_neg h] at e18 ⊢
    subst e18
    iintro ⟨H17, H18, Hk⟩
    sl_step
    iapply Hk
    isplitl [H17]; · iexact H17
    iexact H18

/-- The block of a step that writes final states under its guard: run where the guard holds, nothing changed where it does not. -/
theorem guarded_final (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (arg0 v25 : BitVec 32)
    (f1 : Bf (F := F) c arg1) (f8 : Bf (F := F) c arg8) (f9 : Bf (F := F) c arg9) (f10 : Bf (F := F) c arg10) (f18 : Bf (F := F) c arg18) (f12 : Bf (F := F) c arg12) (f13 : Bf (F := F) c arg13) (g12 : Bf (F := F) c arg12) (g13 : Bf (F := F) c arg13)
    (e12 : g12 = if h : k0_cond5 i = 1#1 then (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q arg0 v25 h f1 f8 f9 f10 f18).1.1 else f12) (e13 : g13 = if h : k0_cond5 i = 1#1 then (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q arg0 v25 h f1 f8 f9 f10 f18).1.2 else f13)
    (E : Set ℕ) (Q : PUnit → sProp 𝕄) :
    iprop((arg1.view.loc (c : Thread nD τ) ↦{q} f1) ∗ pt c arg8 f8 ∗ pt c arg9 f9 ∗ pt c arg10 f10 ∗ pt c arg18 f18 ∗ pt c arg12 f12 ∗ pt c arg13 f13
        ∗ (iprop((arg1.view.loc (c : Thread nD τ) ↦{q} f1) ∗ pt c arg8 f8 ∗ pt c arg9 f9 ∗ pt c arg10 f10 ∗ pt c arg18 f18 ∗ pt c arg12 g12 ∗ pt c arg13 g13) -∗ Q ⟨⟩))
      ⊢ wp frame (wpE (defs₀ (F := F)) Variants.none c none) E (if h : k0_cond5 i = 1#1 then finalBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v25 h else pure ⟨⟩) Q := by
  by_cases h : k0_cond5 i = 1#1
  · simp only [dif_pos h] at e12 e13 ⊢
    subst e12; subst e13
    iintro ⟨H1, H8, H9, H10, H18, H12, H13, Hk⟩
    iapply (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q arg0 v25 h f1 f8 f9 f10 f18).2 f12 f13 E Q
    isplitl [H1]; · iexact H1
    isplitl [H8]; · iexact H8
    isplitl [H9]; · iexact H9
    isplitl [H10]; · iexact H10
    isplitl [H18]; · iexact H18
    isplitl [H12]; · iexact H12
    isplitl [H13]; · iexact H13
    iexact Hk
  · simp only [dif_neg h] at e12 e13 ⊢
    subst e12; subst e13
    iintro ⟨H1, H8, H9, H10, H18, H12, H13, Hk⟩
    sl_step
    iapply Hk
    isplitl [H1]; · iexact H1
    isplitl [H8]; · iexact H8
    isplitl [H9]; · iexact H9
    isplitl [H10]; · iexact H10
    isplitl [H18]; · iexact H18
    isplitl [H12]; · iexact H12
    iexact H13

/-- The word of the table the body reads at a grid point: the batch's count of live tokens. -/
def smemWord (c : Dev nD) (arg1 : Memref sig .tc .smem S3 .i32) (f1 : Bf (F := F) c arg1) (i : grid0.Coords) : Elt F .i32 :=
  (arg1.access (Rect.unit (s := S3) (k0_off2 i) S1.size (k0_off2_inb i))).read (Elt F) f1 (Shape.Idx.first (numel1_S1.symm ▸ Nat.one_pos))

/-- THE BODY AT A GRID POINT: from its buffers held whole (the table at any share), it runs to its end and leaves in each
    buffer what its five blocks, in order, put there. -/
theorem bodyRun (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (g11 : Bf (F := F) c arg11) (g12 : Bf (F := F) c arg12) (g13 : Bf (F := F) c arg13) (g14 : Bf (F := F) c arg14) (g15 : Bf (F := F) c arg15) (g16 : Bf (F := F) c arg16) (g17 : Bf (F := F) c arg17) (g18 : Bf (F := F) c arg18) (g17a : Bf (F := F) c arg17) (g11a : Bf (F := F) c arg11)
    (e16 : g16 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.1 else f16)
    (e17a : g17a = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.1 else f17)
    (e14 : g14 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.1 else f14)
    (e15 : g15 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.2 else f15)
    (e17 : g17 = if h : k0_cond2 i (smemWord c arg1 f1 i) = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) (smemWord c arg1 f1 i) f2 f3 f4 f5 g14 g15 g16 g17a).1.1 else g17a)
    (e11a : g11a = if h : k0_cond2 i (smemWord c arg1 f1 i) = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) (smemWord c arg1 f1 i) f2 f3 f4 f5 g14 g15 g16 g17a).1.2 else f11)
    (e11 : g11 = if h : k0_cond3 i (smemWord c arg1 f1 i) = 1#1 then (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f2).1 else g11a)
    (e18 : g18 = if h : endCond i = 1#1 then (endRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  g17).1 else f18)
    (e12 : g12 = if h : k0_cond5 i = 1#1 then (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (BitVec.ofNat 32 (i 0).val) (finalBatchWord i) h f1 f8 f9 f10 g18).1.1 else f12)
    (e13 : g13 = if h : k0_cond5 i = 1#1 then (finalRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (BitVec.ofNat 32 (i 0).val) (finalBatchWord i) h f1 f8 f9 f10 g18).1.2 else f13)
    (E : Set ℕ) (Q : PUnit → sProp 𝕄) :
    iprop((arg1.view.loc (c : Thread nD τ) ↦{q} f1) ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ (∃ f, pt c arg19 f)
        ∗ (iprop((arg1.view.loc (c : Thread nD τ) ↦{q} f1) ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 g11 ∗ pt c arg12 g12 ∗ pt c arg13 g13 ∗ pt c arg14 g14 ∗ pt c arg15 g15 ∗ pt c arg16 g16 ∗ pt c arg17 g17 ∗ pt c arg18 g18 ∗ (∃ f, pt c arg19 f)) -∗ Q ⟨⟩))
      ⊢ wp frame (wpE (defs₀ (F := F)) Variants.none c none) E (cc0_carry_correction (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [root_eq_blocks]
  unfold rootBlocks
  iintro ⟨H1, H2, H3, H4, H5, H6, H7, H8, H9, H10, H11, H12, H13, H14, H15, H16, H17, H18, H19, Hk⟩
  rw [wp_bind]
  unfold smemLoad
  iapply (wp_smemLoadElt Variants.none (c : Thread nD τ) none E (m := arg1) (r := Rect.unit (s := S3) (k0_off2 i) S1.size (k0_off2_inb i)) (q := q) (f := f1) (S := Finset.univ) (Finset.subset_univ _)) $$ H1
  iintro H1
  sl_step
  rw [wp_bind]
  iapply (guarded_start c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q f6 f7 f16 f17 f14 f15 g16 g17a g14 g15 e16 e17a e14 e15 E _)
  isplitl [H6]; · iexact H6
  isplitl [H7]; · iexact H7
  isplitl [H16]; · iexact H16
  isplitl [H17]; · iexact H17
  isplitl [H14]; · iexact H14
  isplitl [H15]; · iexact H15
  iintro ⟨H6, H7, H16, H17, H14, H15⟩
  rw [wp_bind]
  iapply (guarded_correct c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (chunkWord i) (smemWord c arg1 f1 i) f2 f3 f4 f5 g14 g15 g16 g17a f11 g17 g11a e17 e11a E _)
  isplitl [H2]; · iexact H2
  isplitl [H3]; · iexact H3
  isplitl [H4]; · iexact H4
  isplitl [H5]; · iexact H5
  isplitl [H14]; · iexact H14
  isplitl [H15]; · iexact H15
  isplitl [H16]; · iexact H16
  isplitl [H17]; · iexact H17
  isplitl [H11]; · iexact H11
  isplitl [H19]; · iexact H19
  iintro ⟨H2, H3, H4, H5, H14, H15, H16, H17, H11, H19⟩
  rw [wp_bind]
  iapply (guarded_copy c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (smemWord c arg1 f1 i) f2 g11a g11 e11 E _)
  isplitl [H2]; · iexact H2
  isplitl [H11]; · iexact H11
  iintro ⟨H2, H11⟩
  rw [wp_bind]
  iapply (guarded_end c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q g17 f18 g18 e18 E _)
  isplitl [H17]; · iexact H17
  isplitl [H18]; · iexact H18
  iintro ⟨H17, H18⟩
  rw [wp_bind]
  iapply (guarded_final c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q (BitVec.ofNat 32 (i 0).val) (finalBatchWord i) f1 f8 f9 f10 g18 f12 f13 g12 g13 e12 e13 E _)
  isplitl [H1]; · iexact H1
  isplitl [H8]; · iexact H8
  isplitl [H9]; · iexact H9
  isplitl [H10]; · iexact H10
  isplitl [H18]; · iexact H18
  isplitl [H12]; · iexact H12
  isplitl [H13]; · iexact H13
  iintro ⟨H1, H8, H9, H10, H18, H12, H13⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.KernelIdeal.Gen

end
-- ==== Proof.IdealKit.lean ====
/-
  The program around its kernel call: what the call finds in each array, the prefetched table and why every block it
  selects lies inside its array, and the frame claim from a run of the call.
-/
module

public import proofs.«01_k».proof.Proof.IdealBlocks
public import proofs.«01_k».proof.Proof.Gen.KernelIdeal.Launch
public import Idealize.ShloMosaic.Lib.Affine
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

/-- The operations before the call allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl

/-! ## The live block index -/

/-- The block index the table-reading windows use: the chunk, or the batch's last live chunk before it. -/
def liveWord (n w : BitVec 32) : BitVec 32 :=
  Scalar.minsi (Scalar.subi (Scalar.minsi n 95#32) (Scalar.muli (Scalar.divsi (Scalar.minsi n 95#32) 32#32) 32#32))
    (Scalar.divsi (Scalar.subi (Scalar.minsi 8192#32 (Scalar.maxsi 1#32 w)) 1#32) 256#32)

/-- That index in closed form. -/
theorem liveWord_isInt (n : Nat) (hn : n < 101) (w : BitVec 32) :
    Affine.IsInt (liveWord (BitVec.ofNat 32 n) w) (min ((min n 95 % 32 : Nat) : Int) ((min 8192 (max 1 w.toInt) - 1) / 256)) := by
  have hr := Affine.word_range w
  have h0 : Affine.IsInt (Scalar.minsi (BitVec.ofNat 32 n) 95#32) ((min n 95 : Nat) : Int) :=
    Affine.minsi (Affine.ofNat (e := (n : Int)) n ⟨rfl, by omega⟩) (Affine.ofNat (e := 95) 95 ⟨rfl, by decide⟩) (by omega)
  have h1 : Affine.IsInt (Scalar.divsi (Scalar.minsi (BitVec.ofNat 32 n) 95#32) 32#32) ((min n 95 / 32 : Nat) : Int) :=
    Affine.divsi h0 (Affine.ofNat (e := 32) 32 ⟨rfl, by decide⟩) ⟨Int.natCast_ediv _ 32, by omega, by decide⟩
  have h2 := Affine.muli h1 (Affine.ofNat (e := 32) 32 ⟨rfl, by decide⟩) (e := ((min n 95 / 32 * 32 : Nat) : Int)) (by push_cast; omega)
  have h3 := Affine.subi h0 h2 (e := ((min n 95 % 32 : Nat) : Int)) (by push_cast; omega)
  have h4 := Affine.maxsi (Affine.ofNat (e := 1) 1 ⟨rfl, by decide⟩) (Affine.word w) rfl
  have h5 := Affine.minsi (Affine.ofNat (e := 8192) 8192 ⟨rfl, by decide⟩) h4 rfl
  have h6 := Affine.subi h5 (Affine.ofNat (e := 1) 1 ⟨rfl, by decide⟩) (e := min 8192 (max 1 w.toInt) - 1) (by omega)
  have h7 := Affine.divsi h6 (Affine.ofNat (e := 256) 256 ⟨rfl, by decide⟩) (e := (min 8192 (max 1 w.toInt) - 1) / 256) (by omega)
  exact Affine.minsi h3 h7 rfl

/-- The batch a grid point reads from, in closed form. -/
theorem batchWord_isInt (n : Nat) (hn : n < 101) :
    Affine.IsInt (Scalar.divsi (Scalar.minsi (BitVec.ofNat 32 n) 95#32) 32#32) ((min n 95 / 32 : Nat) : Int) := by
  have h0 : Affine.IsInt (Scalar.minsi (BitVec.ofNat 32 n) 95#32) ((min n 95 : Nat) : Int) :=
    Affine.minsi (Affine.ofNat (e := (n : Int)) n ⟨rfl, by omega⟩) (Affine.ofNat (e := 95) 95 ⟨rfl, by decide⟩) (by omega)
  exact Affine.divsi h0 (Affine.ofNat (e := 32) 32 ⟨rfl, by decide⟩) ⟨Int.natCast_ediv _ 32, by omega, by decide⟩

/-- A step's number is below 101. -/
theorem coord_lt (i : grid0.Coords) : (i 0).val < 101 := (i 0).isLt

/-- Every block the two table-reading windows name lies inside its array, whatever the table holds. -/
theorem ok (pf : pre0.Contents (Elt F)) : ok0 (F := F) pf := by
  refine ⟨fun i => ?_, fun i => ?_⟩
  · refine ⟨?_, .inr (Affine.block_words_dvd (of_decide_eq_true rfl) (by decide))⟩
    have hi := coord_lt i
    unfold cc0_transform_1
    exact Affine.blk_cons (batchWord_isInt _ hi) (by push_cast; omega)
      (Affine.blk_cons (liveWord_isInt _ hi _) (by push_cast; omega) (Affine.blk_cons (Affine.ofNat (e := 0) 0 ⟨rfl, by decide⟩) (by decide) Affine.blk_nil))
  · refine ⟨?_, .inl rfl⟩
    have hi := coord_lt i
    unfold cc0_transform_2
    exact Affine.blk_cons (batchWord_isInt _ hi) (by push_cast; omega)
      (Affine.blk_cons (liveWord_isInt _ hi _) (by push_cast; omega) (Affine.blk_cons (Affine.ofNat (e := 0) 0 ⟨rfl, by decide⟩) (by decide) Affine.blk_nil))
/-- The tables' contents as ADMISSIBLE contents, and the pipeline at them: what the launch theorem runs
    (`θ_run_frameP`). -/
abbrev adm : (pcfg0 (F := F)).Adm := ⟨tbl m, ok _⟩
/-- The call's configuration at the launched table. -/
abbrev cfgM : Pipeline.Cfg sig Λ₀ := cfg0 (adm m)

/-- Each table as the body is handed it: its whole buffer as a memref, and that memref's wholeness. -/
abbrev tbM0_0 : Memref sig .tc .smem S3 .i32 := Memref.whole main_arg7
/-- The table is a whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table held at half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The frame claim's post from the run's -/

/-- A run that ends with the post of the frame run leaves every argument array as it was launched. -/
theorem args_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w)) {r : PUnit × MemSt nD τ sig (Elt F)}
    (h : Pipeline.RDat.FramePost ((Pipeline.pin pcfgs fun _ => adm m) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      ((h c).2 main_arg3 (by decide : main_arg3 ∈ Pipeline.restRefs sig spec0)).trans (V_main_arg3 m c),
      (Pipeline.RDat.FramePost.arr_in h c 6 rfl).trans ((hA c 6).trans (V_main_arg4 m c)),
      (Pipeline.RDat.FramePost.arr_in h c 7 rfl).trans ((hA c 7).trans (V_main_arg5 m c)),
      (Pipeline.RDat.FramePost.arr_in h c 8 rfl).trans ((hA c 8).trans (V_main_arg6 m c)),
      ((h c).2 main_arg7 (by decide : main_arg7 ∈ Pipeline.restRefs sig spec0)).trans (V_main_arg7 m c)⟩

/-! ## The kernel body at a grid point -/

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_carry_correction (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.KernelIdeal.Gen

end
-- ==== Proof.IdealFrame.lean ====
/-
  The frame of the program: it runs from any launch state, faults nowhere, and leaves its argument arrays as launched.
  The body's contract here says of its inputs that it leaves them as it found them, and nothing of its outputs.
-/
module

public import proofs.«01_k».proof.Proof.IdealBody
public import proofs.«01_k».proof.Proof.IdealKit
public import Idealize.ShloMosaic.Lib.Affine
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Owning a whole memref at contents `X` is holding its buffer at something that reads `X`. -/
theorem owns_whole (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns; rw [hM.set_eq_univ]

/-- A whole buffer held at some contents is owned with some value. -/
theorem owns_of_pt (c : Dev nD) {sp : Space} {S : Shape} {e : EltTy} (M : Memref sig .tc sp S e) (hM : M.IsWhole) (f : Bf (F := F) c M) :
    (pt c M f : sProp 𝕄) ⊢ iprop(∃ X, owns (c : Thread nD τ) M fullShare X) := by
  iintro H
  iexists (M.view.read (Elt F) f)
  rw [owns_whole c M hM]
  iexists f
  isplitr; · ipureintro; rfl
  iexact H

set_option maxHeartbeats 1000000 in
/-- The body over owned windows, nothing said of what it writes. -/
theorem bodyOwns (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (f1 : Bf (F := F) c arg1) (X2 : S1x256x11520.Idx → Elt F .bf16) (X3 : S1x256x1024.Idx → Elt F .bf16) (X4 : S1x256x120.Idx → Elt F .f32) (X5 : S1x120.Idx → Elt F .f32) (X6 : S1x11520x128.Idx → Elt F .fp8e4m3) (X7 : S1x120x96.Idx → Elt F .f32) (X8 : S1x24x96x128.Idx → Elt F .fp8e4m3) (X9 : S1x24x96.Idx → Elt F .f32) (X10 : S1x24x96x128.Idx → Elt F .f32) (X11 : S1x256x11520.Idx → Elt F .bf16) (X12 : S1x24x96x128.Idx → Elt F .fp8e4m3) (X13 : S1x24x96.Idx → Elt F .f32)
    (E : Set ℕ) (Q : PUnit → sProp 𝕄) :
    iprop((arg1.view.loc (c : Thread nD τ) ↦{q} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ (∃ f, pt c arg14 f) ∗ (∃ f, pt c arg15 f) ∗ (∃ f, pt c arg16 f) ∗ (∃ f, pt c arg17 f) ∗ (∃ f, pt c arg18 f) ∗ (∃ f, pt c arg19 f)
        ∗ (iprop((arg1.view.loc (c : Thread nD τ) ↦{q} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg11 fullShare X) ∗ (∃ X, owns (c : Thread nD τ) arg12 fullShare X) ∗ (∃ X, owns (c : Thread nD τ) arg13 fullShare X) ∗ (∃ f, pt c arg14 f) ∗ (∃ f, pt c arg15 f) ∗ (∃ f, pt c arg16 f) ∗ (∃ f, pt c arg17 f) ∗ (∃ f, pt c arg18 f) ∗ (∃ f, pt c arg19 f)) -∗ Q ⟨⟩))
      ⊢ wp frame (wpE (defs₀ (F := F)) Variants.none c none) E (cc0_carry_correction (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [owns_whole c arg2 harg2 X2, owns_whole c arg3 harg3 X3, owns_whole c arg4 harg4 X4, owns_whole c arg5 harg5 X5, owns_whole c arg6 harg6 X6, owns_whole c arg7 harg7 X7, owns_whole c arg8 harg8 X8, owns_whole c arg9 harg9 X9, owns_whole c arg10 harg10 X10, owns_whole c arg11 harg11 X11, owns_whole c arg12 harg12 X12, owns_whole c arg13 harg13 X13]
  iintro ⟨H1, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, H14⟩, ⟨%f15, H15⟩, ⟨%f16, H16⟩, ⟨%f17, H17⟩, ⟨%f18, H18⟩, H19, Hk⟩
  iapply (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q f1 f2 f3 f4 f5 f6 f7 f8 f9 f10 f11 f12 f13 f14 f15 f16 f17 f18 _ _ _ _ _ _ _ _ _ _ rfl rfl rfl rfl rfl rfl rfl rfl rfl rfl E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  iapply Hk
  isplitl [H1]; · iexact H1
  isplitl [H2]; · (iexists f2; isplitr; (ipureintro; exact e2); iexact H2)
  isplitl [H3]; · (iexists f3; isplitr; (ipureintro; exact e3); iexact H3)
  isplitl [H4]; · (iexists f4; isplitr; (ipureintro; exact e4); iexact H4)
  isplitl [H5]; · (iexists f5; isplitr; (ipureintro; exact e5); iexact H5)
  isplitl [H6]; · (iexists f6; isplitr; (ipureintro; exact e6); iexact H6)
  isplitl [H7]; · (iexists f7; isplitr; (ipureintro; exact e7); iexact H7)
  isplitl [H8]; · (iexists f8; isplitr; (ipureintro; exact e8); iexact H8)
  isplitl [H9]; · (iexists f9; isplitr; (ipureintro; exact e9); iexact H9)
  isplitl [H10]; · (iexists f10; isplitr; (ipureintro; exact e10); iexact H10)
  isplitl [H11]; · iapply (owns_of_pt c arg11 harg11 _); iexact H11
  isplitl [H12]; · iapply (owns_of_pt c arg12 harg12 _); iexact H12
  isplitl [H13]; · iapply (owns_of_pt c arg13 harg13 _); iexact H13
  isplitl [H14]; · iexists _; iexact H14
  isplitl [H15]; · iexists _; iexact H15
  isplitl [H16]; · iexists _; iexact H16
  isplitl [H17]; · iexists _; iexact H17
  isplitl [H18]; · iexists _; iexact H18
  iexact H19

/-- The proof data of the frame. -/
def rdat (c : Dev nD) : RDat τ (Elt F) Unit ℕ (UR sig nD τ) ℕ ((Pipeline.pin pcfgs fun _ => adm m) 0) c where
  A w := V m c (Pipeline.arrRef spec0 w)
  after w _ Y X := (spec0 w).isOut = false → X = Y
  Φ _ := iprop(Pipeline.ΦA spec0 c ∗ Pipeline.ΦT pre0 (tbl m) c)
  q := Pipeline.shareOf spec0
  owed _ := 0

/-- The invariant from its parts. -/
theorem phi_close (c : Dev nD) :
    iprop((∃ f, pt (F := F) c (Memref.whole cc0_scratch0) f) ∗ (∃ f, pt (F := F) c (Memref.whole cc0_scratch1) f) ∗ (∃ f, pt (F := F) c (Memref.whole cc0_scratch2) f)
        ∗ (∃ f, pt (F := F) c (Memref.whole cc0_scratch3) f) ∗ (∃ f, pt (F := F) c (Memref.whole cc0_scratch4) f) ∗ (∃ f, pt (F := F) c (Memref.whole cc0_scratch5) f)
        ∗ (∃ r, prngReg c r) ∗ tbPt0 c tbM0_0 (tbl m 0))
      ⊢ (iprop(Pipeline.ΦA spec0 c ∗ Pipeline.ΦT pre0 (tbl m) c) : sProp 𝕄) := by
  rw [PhiT0_eq]; unfold Pipeline.ΦA; rw [scopedRest0_eq]
  iintro ⟨S0, S1, S2, S3, S4, S5, Hr, HT⟩
  isplitl [S0 S1 S2 S3 S4 S5 Hr]
  · isplitl [S0 S1 S2 S3 S4 S5]
    · isplitl [S0]; · iexact S0
      isplitl [S1]; · iexact S1
      isplitl [S2]; · iexact S2
      isplitl [S3]; · iexact S3
      isplitl [S4]; · iexact S4
      iexact S5
    · iexact Hr
  · iexact HT

/-- The procedure table's row at the body label: the call the pipeline makes at a point is `bodyAt0`. -/
theorem defs₀_row (t : Fin (cfgM m).N) :
    (defs₀ (F := F)) .tc (cfgM m).body ((cfgM m).bodyArgs t ((cfgM m).slots t)) = bodyAt0 (adm m) t := by
  unfold defs₀; rw [Defs.onTc_tc]

set_option maxHeartbeats 1000000 in
/-- One step of the grid runs without fault and leaves what the frame's data ask. -/
theorem body (c : Dev nD) : (rdat m c).BodyObligation (defs₀ (F := F)) Variants.none () Set.univ := by
  intro t Y _
  rw [bigSep_W0, bigSep_W0]
  refine Eq.mpr (congrArg (fun p => _ ⊢ wp frame (wpE (defs₀ (F := F)) Variants.none c none) Set.univ p _) (defs₀_row m t).symm) ?_
  show iprop(iprop(Pipeline.ΦA spec0 c ∗ Pipeline.ΦT pre0 (tbl m) c) ∗ _ ∗ _) ⊢ _
  rw [PhiT0_eq]
  unfold Pipeline.ΦA
  rw [scopedRest0_eq]
  iintro ⟨⟨⟨⟨⟨%f14, S0⟩, ⟨%f15, S1⟩, ⟨%f16, S2⟩, ⟨%f17, S3⟩, ⟨%f18, S4⟩, S5⟩, Hr⟩, HT⟩, Ho, H0, H1, H2, H3, H4, H5, H6, H7, H8, H9, H10, H11⟩
  iapply (bodyOwns c (grid0.coords t) _ _ _ _ _ _ _ _ _ _ _ _ _ _ _ _ _ _ _ _ _ _ _ _ _ _ _ _ _ _ _ _ _ _ _ _ _ _ fullShare.right (tbl m 0) (Y 0) (Y 1) (Y 2) (Y 3) (Y 4) (Y 5) (Y 6) (Y 7) (Y 8) (Y 9) (Y 10) (Y 11) Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexists _; iexact S0
  isplitl [S1]; · iexists _; iexact S1
  isplitl [S2]; · iexists _; iexact S2
  isplitl [S3]; · iexists _; iexact S3
  isplitl [S4]; · iexists _; iexact S4
  isplitl [S5]; · iexact S5
  iintro ⟨HT, H0, H1, H2, H3, H4, H5, H6, H7, H8, H9, H10, H11, S0, S1, S2, S3, S4, S5⟩
  isplitl [HT S0 S1 S2 S3 S4 S5 Hr]
  · iapply (show _ ⊢ (rdat m c).Φ t.succ from phi_close m c)
    isplitl [S0]; · iexact S0
    isplitl [S1]; · iexact S1
    isplitl [S2]; · iexact S2
    isplitl [S3]; · iexact S3
    isplitl [S4]; · iexact S4
    isplitl [S5]; · iexact S5
    isplitl [Hr]; · iexact Hr
    iexact HT
  isplitl [Ho]; · iexact Ho
  isplitl [H0]; · (iexists (Y 0); isplitr; (ipureintro; exact fun _ => rfl); iexact H0)
  isplitl [H1]; · (iexists (Y 1); isplitr; (ipureintro; exact fun _ => rfl); iexact H1)
  isplitl [H2]; · (iexists (Y 2); isplitr; (ipureintro; exact fun _ => rfl); iexact H2)
  isplitl [H3]; · (iexists (Y 3); isplitr; (ipureintro; exact fun _ => rfl); iexact H3)
  isplitl [H4]; · (iexists (Y 4); isplitr; (ipureintro; exact fun _ => rfl); iexact H4)
  isplitl [H5]; · (iexists (Y 5); isplitr; (ipureintro; exact fun _ => rfl); iexact H5)
  isplitl [H6]; · (iexists (Y 6); isplitr; (ipureintro; exact fun _ => rfl); iexact H6)
  isplitl [H7]; · (iexists (Y 7); isplitr; (ipureintro; exact fun _ => rfl); iexact H7)
  isplitl [H8]; · (iexists (Y 8); isplitr; (ipureintro; exact fun _ => rfl); iexact H8)
  isplitl [H9]; · (icases H9 with ⟨%X, H9⟩; iexists X; isplitr; (ipureintro; exact fun h => absurd h (by decide)); iexact H9)
  isplitl [H10]; · (icases H10 with ⟨%X, H10⟩; iexists X; isplitr; (ipureintro; exact fun h => absurd h (by decide)); iexact H10)
  (icases H11 with ⟨%X, H11⟩; iexists X; isplitr; (ipureintro; exact fun h => absurd h (by decide)); iexact H11)

/-- The kernel runs, ends with no semaphore raised, and leaves its arguments as launched. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.RDat.θ_run_frameP_track_shared pcfgs (fun _ => adm m) 0 launch₀0 defs₀ Variants.none (rdat m) m ρ (main (F := F))
    (fun c => body m c) (fun _ _ _ => rfl) (fun _ _ => rfl) (V m) (hmain m Variants.none) (fun _ _ => rfl) (V_pre m)
    (fun _ => .rfl) (fun c => (show iprop(Pipeline.ΦA spec0 c ∗ Pipeline.ΦT pre0 (tbl m) c) ⊢ Pipeline.ΦA spec0 c from by iintro ⟨H, -⟩; iexact H)) (Q' := _)
    (hQ' := fun r h => ⟨args_of m (rdat m) (fun _ _ => rfl) h.1, h.2⟩)

end Cert.KernelIdeal.Gen

end
-- ==== Proof.IdealSlice.lean ====
/- One slice of 128 columns of a corrected chunk, over the extended reals. -/
module

public import proofs.«01_k».proof.Proof.IdealBlocks
public import Idealize.ShloMosaic.Lib.Pointwise

@[expose] public section

set_option maxRecDepth 16384

noncomputable section

namespace Cert.KernelIdeal.Gen

open Idealize.ShloMosaic Idealize.ShloMosaic.TcCoe

/-- The head of each column of a slice, as the kernel computes it: `wk` the slice's place in its group of three, `wq` four
    heads for each group of three before. -/
def headWord (wk wq : BitVec 32) : IVec S256x128 32 :=
  addi (divsi (addi (iota .tc S256x128 32 [1] iota_S256x128_d1_w32) (broadcast S256x128 wk)) (broadcast S256x128 96#32))
    (broadcast S256x128 wq)

/-- A slice: the old values plus the products' scaled, decayed values. -/
def sliceV (o : ℕ) (ho : S256x256.Slices ![0, o] S256x128) (wk wq : BitVec 32) (dec : FVec Ideal S256x128 .f32)
    (M : FVec Ideal S256x256 .f32) (s : Vec Ideal S1x1x128 .f32) (y : Vec Ideal S1x256x128 .bf16) :
    FVec Ideal S1x256x128 .bf16 :=
  shapeCast S1x256x128
    (truncf .bf16
      (addf (extf .f32 (shapeCast S256x128 y shapeCasts_S1x256x128_S256x128) bitsLt_bf16_f32)
        (mulf
          (mulf (extractStridedSlice S256x128 ![0, o] M ho)
            (broadcastTo S256x128 (shapeCast S1x128 s shapeCasts_S1x1x128_S1x128) broadcasts_S1x128_S256x128))
          (dynamicGather 1 dec
            (shapeCast S256x128
              (shapeCast S256x128x1
                (select (cmpi .slt (headWord wk wq) (broadcast S256x128 0#32))
                  (addi (headWord wk wq) (broadcast S256x128 128#32)) (headWord wk wq))
                shapeCasts_S256x128_S256x128x1)
              shapeCasts_S256x128x1_S256x128))))
      bitsLt_bf16_f32)
    shapeCasts_S256x128_S1x256x128

/-- The head of a lane, as the kernel divides. -/
theorem divWord (lane : Fin 128) (k : Fin 3) :
    IntOp.divsi ArithUnit.vector (IntOp.addi (BitVec.ofNat 32 lane) (BitVec.ofNat 32 (128 * k))) 96#32
      = BitVec.ofNat 32 (((lane : ℕ) + 128 * (k : ℕ)) / 96) := by
  revert lane k; decide +kernel

/-- The head index after the kernel's wrap. -/
theorem wrapWord (h : Fin 4) (q : Fin 30) :
    (Scalar.select (IntOp.cmpi CmpIPredicate.slt (IntOp.addi (BitVec.ofNat 32 h) (BitVec.ofNat 32 (4 * q))) 0#32)
      (IntOp.addi (IntOp.addi (BitVec.ofNat 32 h) (BitVec.ofNat 32 (4 * q))) 128#32)
      (IntOp.addi (BitVec.ofNat 32 h) (BitVec.ofNat 32 (4 * q)))).toNat % 128 = h + 4 * q := by
  revert h q; decide +kernel

/-- A slice of 128 columns at an element: product, scale and decay. -/
theorem sliceV_at (o : ℕ) (ho : S256x256.Slices ![0, o] S256x128) (k : Fin 3) (q : Fin 30) (dec : FVec Ideal S256x128 .f32)
    (M : FVec Ideal S256x256 .f32) (s : Vec Ideal S1x1x128 .f32) (y : Vec Ideal S1x256x128 .bf16) (tok : Fin 256) (lane : Fin 128)
    (hlt : (o : ℕ) + lane < 256) (hh : ((lane : ℕ) + 128 * (k : ℕ)) / 96 + 4 * (q : ℕ) < 128) :
    sliceV o ho (BitVec.ofNat 32 (128 * k)) (BitVec.ofNat 32 (4 * q)) dec M s y (ix3 0 tok lane)
      = y (ix3 0 tok lane) + M (ix2 tok ⟨o + lane, hlt⟩) * s (ix3 0 0 lane) * dec (ix2 tok ⟨((lane : ℕ) + 128 * (k : ℕ)) / 96 + 4 * q, hh⟩) := by
  have hw := wrapWord ⟨((lane : ℕ) + 128 * (k : ℕ)) / 96, by omega⟩ q
  unfold sliceV headWord
  pointwise
  simp only [divWord] at hw ⊢
  simp only [hw]

/-- A product of a tile within one group, at an element. -/
theorem dense_at (x : Vec Ideal S1x256x128 .bf16) (w : Vec Ideal S256x128 .bf16) (tok : Fin 256) (r : Fin 256) :
    k0_pay94 x w (ix2 tok r) = ∑ n : Fin 128, x (ix3 0 tok n) * w (ix2 r n) := by
  unfold_payloads
  pointwise

/-- A product of a tile across two groups, at an element. -/
theorem mixed_at (x : Vec Ideal S1x256x256 .bf16) (w : Vec Ideal S1x256x256 .bf16) (tok : Fin 256) (r : Fin 256) :
    k0_pay119 x w (ix2 tok r) = ∑ n : Fin 256, x (ix3 0 tok n) * w (ix3 0 r n) := by
  unfold_payloads
  pointwise

/-- The corrected chunk, element by element: `C` the chunk's rows, `CD` the decoded codes, `SC` the scales by column, `D` the
    decay factors by token and head. -/
def corrected (Y : S1x256x11520.Idx → EReal) (C CD : ℕ → ℕ → EReal) (SC : ℕ → EReal) (D : ℕ → ℕ → EReal) :
    S1x256x11520.Idx → EReal := fun i =>
  Y i + (∑ n : Fin 128, C (i 1) (128 * ((i 2 : ℕ) / 1440) + n) * CD (i 2) n) * SC (i 2) * D (i 1) ((i 2 : ℕ) / 96)

/-- A stored piece holds the values of `G` at its place. -/
def Good {S : Shape} {e : EltTy} (G : S.Idx → Elt Ideal e) (p : View.Piece (Elt Ideal) S e) : Prop :=
  ∀ x : p.1.shape.Idx, p.2 x = G (p.1.emb x)

/-- A list of good pieces, one longer. -/
theorem good_cons {S : Shape} {e : EltTy} {G : S.Idx → Elt Ideal e} {p : View.Piece (Elt Ideal) S e}
    {L : List (View.Piece (Elt Ideal) S e)} (hp : Good G p) (hL : ∀ q ∈ L, Good G q) : ∀ q ∈ p :: L, Good G q := by
  intro q hq
  rcases List.mem_cons.mp hq with rfl | hq
  · exact hp
  · exact hL q hq

/-- Every piece of the empty list is good. -/
theorem good_nil {S : Shape} {e : EltTy} {G : S.Idx → Elt Ideal e} : ∀ q ∈ ([] : List (View.Piece (Elt Ideal) S e)), Good G q :=
  fun q hq => absurd hq List.not_mem_nil

/-- What the block works from: its rows `C`, the decoded codes `CD` (whole, and spread over two groups of rows in the tiles that
    meet a group's edge), the scales `SC`, the decay factors `D`. -/
structure Sources (X3 : S1x256x1024.Idx → EReal) (X14 : S11520x128.Idx → EReal) (X15 : S7x256x256.Idx → EReal)
    (X16 : S3x32x128.Idx → EReal) (X32 : S256x128.Idx → EReal) (C CD : ℕ → ℕ → EReal) (SC : ℕ → EReal) (D : ℕ → ℕ → EReal) : Prop where
  rows : ∀ (tok : Fin 256) (n : Fin 1024), X3 (ix3 0 tok n) = C tok n
  codes : ∀ (col : Fin 11520) (n : Fin 128), X14 (ix2 col n) = CD col n
  edge : ∀ (s : Fin 7) (r n : Fin 256), X15 (ix3 s r n) =
    if (n : ℕ) < 128 ↔ 256 * (1440 * ((s : ℕ) + 1) / 256) + (r : ℕ) < 1440 * ((s : ℕ) + 1) then
      CD (256 * (1440 * ((s : ℕ) + 1) / 256) + r) ((n : ℕ) % 128) else 0
  scales : ∀ (k : Fin 3) (q : Fin 32) (lane : Fin 128), (q : ℕ) < 30 → X16 (ix3 k q lane) = SC (384 * q + 128 * k + lane)
  decay : ∀ (tok : Fin 256) (h : Fin 128), (h : ℕ) < 120 → X32 (ix2 tok h) = D tok h

section
variable {c : Dev nD} {arg2 : Memref sig .tc .vmem S1x256x11520 .bf16} {arg3 : Memref sig .tc .vmem S1x256x1024 .bf16}
  {arg14 : Memref sig .tc .vmem S11520x128 .bf16} {arg15 : Memref sig .tc .vmem S7x256x256 .bf16}
  {arg16 : Memref sig .tc .vmem S3x32x128 .f32}
  {f2 : Bf (F := Ideal) c arg2} {f3 : Bf (F := Ideal) c arg3} {f14 : Bf (F := Ideal) c arg14} {f15 : Bf (F := Ideal) c arg15}
  {f16 : Bf (F := Ideal) c arg16} {X32 : FVec Ideal S256x128 .f32} {C CD : ℕ → ℕ → EReal} {SC : ℕ → EReal} {D : ℕ → ℕ → EReal}

/-- A stored slice holds the formula. -/
theorem slice_good
    (hs : Sources (arg3.view.read (Elt Ideal) f3) (arg14.view.read (Elt Ideal) f14) (arg15.view.read (Elt Ideal) f15)
      (arg16.view.read (Elt Ideal) f16) X32 C CD SC D)
    {off o kk qq : ℕ} {wk wq : BitVec 32} (h0 : off % 128 = 0) (h1 : off < 11520) (hwk : wk = BitVec.ofNat 32 (off % 384))
    (hwq : wq = BitVec.ofNat 32 (4 * (off / 384))) (ho' : o = off % 256) (hkk : kk = off / 128 % 3) (hqq : qq = off / 384)
    {inb : ∀ a, (![0, 0, off] : Fin 3 → ℕ) a + S1x256x128.size a ≤ S1x256x11520.size a}
    {inbs : ∀ a, (![kk, qq, 0] : Fin 3 → ℕ) a + S1x1x128.size a ≤ S3x32x128.size a}
    {ho : S256x256.Slices ![0, o] S256x128} {M : FVec Ideal S256x256 .f32}
    (hM : ∀ (tok : Fin 256) (r : Fin 256), M (ix2 tok r)
      = ∑ n : Fin 128, C tok (128 * ((256 * (off / 256) + r) / 1440) + n) * CD (256 * (off / 256) + r) n) :
    Good (e := .bf16) (corrected (arg2.view.read (Elt Ideal) f2) C CD SC D)
      ⟨Rect.unit (s := S1x256x11520) ![0, 0, off] S1x256x128.size inb,
        sliceV o ho wk wq X32 M
          (View.readAt (Elt Ideal) arg16.view (Rect.unit (s := S3x32x128) ![kk, qq, 0] S1x1x128.size inbs).toLoadRect f16)
          (View.readAt (Elt Ideal) arg2.view (Rect.unit (s := S1x256x11520) ![0, 0, off] S1x256x128.size inb).toLoadRect f2)⟩ := by
  subst hwk hwq ho' hkk hqq
  intro x
  obtain ⟨a, tok, lane, rfl⟩ : ∃ (a : Fin 1) (tok : Fin 256) (lane : Fin 128), x = ix3 a tok lane := ⟨x 0, x 1, x 2, (ix3_eta x).symm⟩
  obtain rfl : a = 0 := Subsingleton.elim _ _
  have hk : off % 384 = 128 * (off / 128 % 3) := by omega
  have hv := sliceV_at (off % 256) ho ⟨off / 128 % 3, by omega⟩ ⟨off / 384, by omega⟩ X32 M
    (View.readAt (Elt Ideal) arg16.view (Rect.unit (s := S3x32x128) ![off / 128 % 3, off / 384, 0] S1x1x128.size inbs).toLoadRect f16)
    (View.readAt (Elt Ideal) arg2.view (Rect.unit (s := S1x256x11520) ![0, 0, off] S1x256x128.size inb).toLoadRect f2) tok lane (by omega)
    (by show ((lane : ℕ) + 128 * (off / 128 % 3)) / 96 + 4 * (off / 384) < 128; omega)
  rw [hk]
  refine hv.trans ?_
  rw [hM, hs.decay _ _ (by show ((lane : ℕ) + 128 * (off / 128 % 3)) / 96 + 4 * (off / 384) < 120; omega)]
  simp only [View.readAt_eq_ld]
  pointwise
  have e : (Rect.unit (s := S1x256x11520) ![0, 0, off] S1x256x128.size inb).emb (ix3 0 tok lane)
      = ix3 0 tok ⟨off + lane, by omega⟩ := by
    funext a; apply Fin.ext; fin_cases a <;> simp [Rect.emb_apply]
  erw [hs.scales _ _ _ (by show off / 384 < 30; omega), e]
  show _ = arg2.view.read (Elt Ideal) f2 (ix3 0 tok ⟨off + lane, _⟩) + (∑ n : Fin 128, C tok (128 * ((off + lane : ℕ) / 1440) + n)
    * CD (off + lane) n) * SC (off + lane) * D tok ((off + lane : ℕ) / 96)
  rw [show 256 * (off / 256) + (off % 256 + (lane : ℕ)) = off + lane by omega,
    show 384 * (off / 384) + 128 * (off / 128 % 3) + (lane : ℕ) = off + lane by omega,
    show ((lane : ℕ) + 128 * (off / 128 % 3)) / 96 + 4 * (off / 384) = (off + lane) / 96 by omega]

/-- The product of a tile within one group is the inner product of the formula. -/
theorem dense_rows
    (hs : Sources (arg3.view.read (Elt Ideal) f3) (arg14.view.read (Elt Ideal) f14) (arg15.view.read (Elt Ideal) f15)
      (arg16.view.read (Elt Ideal) f16) X32 C CD SC D)
    {t cg r0 : ℕ} (hr : r0 = 256 * t) (hcg : cg = 128 * (256 * t / 1440)) (hg : 256 * t / 1440 = (256 * t + 255) / 1440)
    {inb3 : ∀ a, (![0, 0, cg] : Fin 3 → ℕ) a + S1x256x128.size a ≤ S1x256x1024.size a}
    {inb14 : ∀ a, (![r0, 0] : Fin 2 → ℕ) a + S256x128.size a ≤ S11520x128.size a} (tok r : Fin 256) :
    k0_pay94 (View.readAt (Elt Ideal) arg3.view (Rect.unit (s := S1x256x1024) ![0, 0, cg] S1x256x128.size inb3).toLoadRect f3)
        (View.readAt (Elt Ideal) arg14.view (Rect.unit (s := S11520x128) ![r0, 0] S256x128.size inb14).toLoadRect f14) (ix2 tok r)
      = ∑ n : Fin 128, C tok (128 * ((256 * t + r) / 1440) + n) * CD (256 * t + r) n := by
  subst hr hcg
  rw [dense_at]
  simp only [View.readAt_eq_ld]
  pointwise
  refine Finset.sum_congr rfl fun n _ => ?_
  erw [hs.rows, hs.codes]
  simp only [show (256 * t + (r : ℕ)) / 1440 = 256 * t / 1440 by omega]

/-- The product of a tile across two groups is the inner product of the formula: the other group meets zeros. -/
theorem mixed_rows
    (hs : Sources (arg3.view.read (Elt Ideal) f3) (arg14.view.read (Elt Ideal) f14) (arg15.view.read (Elt Ideal) f15)
      (arg16.view.read (Elt Ideal) f16) X32 C CD SC D)
    {t cg g : ℕ} (hcg : cg = 128 * g) (ht : t = 1440 * (g + 1) / 256) (hg : g < 7)
    {inb3 : ∀ a, (![0, 0, cg] : Fin 3 → ℕ) a + S1x256x256.size a ≤ S1x256x1024.size a}
    {inb15 : ∀ a, (![g, 0, 0] : Fin 3 → ℕ) a + S1x256x256.size a ≤ S7x256x256.size a} (tok r : Fin 256) :
    k0_pay119 (View.readAt (Elt Ideal) arg3.view (Rect.unit (s := S1x256x1024) ![0, 0, cg] S1x256x256.size inb3).toLoadRect f3)
        (View.readAt (Elt Ideal) arg15.view (Rect.unit (s := S7x256x256) ![g, 0, 0] S1x256x256.size inb15).toLoadRect f15) (ix2 tok r)
      = ∑ n : Fin 128, C tok (128 * ((256 * t + r) / 1440) + n) * CD (256 * t + r) n := by
  subst hcg ht
  rw [mixed_at]
  simp only [View.readAt_eq_ld]
  pointwise
  trans ∑ n : Fin 256, C tok (128 * g + n) * (if (n : ℕ) < 128 ↔ 256 * (1440 * (g + 1) / 256) + (r : ℕ) < 1440 * (g + 1) then
      CD (256 * (1440 * (g + 1) / 256) + r) ((n : ℕ) % 128) else 0)
  · refine Finset.sum_congr rfl fun n _ => ?_
    erw [hs.rows, hs.edge]
  rw [Fin.sum_univ_two_halves 128 128 rfl]
  by_cases hc : 256 * (1440 * (g + 1) / 256) + (r : ℕ) < 1440 * (g + 1)
  · simp only [hc, iff_true, Fin.is_lt, if_true, show ∀ k : Fin 128, ¬ (128 + (k : ℕ) < 128) by omega, if_false, mul_zero,
      Finset.sum_const_zero, add_zero]
    refine Finset.sum_congr rfl fun n _ => ?_
    rw [show (256 * (1440 * (g + 1) / 256) + (r : ℕ)) / 1440 = g by omega, Nat.mod_eq_of_lt n.isLt]
  · simp only [hc, iff_false, Fin.is_lt, not_true, if_false, show ∀ k : Fin 128, ¬ (128 + (k : ℕ) < 128) by omega, not_false_iff,
      if_true, mul_zero, Finset.sum_const_zero, zero_add]
    refine Finset.sum_congr rfl fun n _ => ?_
    rw [show (256 * (1440 * (g + 1) / 256) + (r : ℕ)) / 1440 = g + 1 by omega,
      show (128 + (n : ℕ)) % 128 = n by omega, show 128 * g + (128 + (n : ℕ)) = 128 * (g + 1) + n by ring]

end

end Cert.KernelIdeal.Gen
-- ==== Proof.Answer.lean ====
/- The first result as a formula: each entry of `y` is the local value plus the carried state read out by `C`, scaled and
   decayed by the sum of the steps up to the token. The arguments are read at natural-number indices. -/
module

public import Idealize.ShloMosaic.Lib.Pointwise

@[expose] public section

noncomputable section

namespace Cert.Carry

open Idealize.ShloMosaic

/-- A batch's decay logarithm at token `i` for head `l`. -/
def step (DT : ℕ → ℕ → ℕ → EReal) (AL : ℕ → EReal) (b i l : ℕ) : EReal := DT b i l * -(Ideal.exp (AL l))

/-- What is left of the carried state at token `i`: nothing from the end of the first document on. -/
def decay (DT : ℕ → ℕ → ℕ → EReal) (AL : ℕ → EReal) (LV : ℕ → ℤ) (b i l : ℕ) : EReal :=
  if (i : ℤ) < LV b then Ideal.exp (∑ j ∈ Finset.range (i + 1), step DT AL b j l) else 0

/-- The corrected entry. -/
def answer (Y C CD : ℕ → ℕ → ℕ → EReal) (SC : ℕ → ℕ → EReal) (DT : ℕ → ℕ → ℕ → EReal) (AL : ℕ → EReal) (LV : ℕ → ℤ) (b i col : ℕ) : EReal :=
  Y b i col + (∑ n : Fin 128, C b i (128 * (col / 1440) + n) * CD b col n) * SC b col * decay DT AL LV b i (col / 96)

/-! The arguments at natural-number indices. -/

/-- Element (b, i, col) of y. -/
def argY (x : (⟨3, ![3, 8192, 11520]⟩ : Shape).Idx → EReal) (b i col : ℕ) : EReal := x (ix3 (Fin.ofNat 3 b) (Fin.ofNat 8192 i) (Fin.ofNat 11520 col))
/-- Entry k of the row of C at token i of batch b, the groups one after another. -/
def argC (x : (⟨4, ![3, 8192, 8, 128]⟩ : Shape).Idx → EReal) (b i k : ℕ) : EReal :=
  x (ix4 (Fin.ofNat 3 b) (Fin.ofNat 8192 i) (Fin.ofNat 8 (k / 128)) (Fin.ofNat 128 (k % 128)))
/-- The time step of head l at token i of batch b. -/
def argDT (x : (⟨3, ![3, 8192, 120]⟩ : Shape).Idx → EReal) (b i l : ℕ) : EReal := x (ix3 (Fin.ofNat 3 b) (Fin.ofNat 8192 i) (Fin.ofNat 120 l))
/-- The logarithm of the decay rate of head l. -/
def argAL (x : (⟨1, ![120]⟩ : Shape).Idx → EReal) (l : ℕ) : EReal := x (ix1 (Fin.ofNat 120 l))
/-- Entry n of the code row of column col in batch b. -/
def argCD (x : (⟨4, ![3, 120, 96, 128]⟩ : Shape).Idx → EReal) (b col n : ℕ) : EReal :=
  x (ix4 (Fin.ofNat 3 b) (Fin.ofNat 120 (col / 96)) (Fin.ofNat 96 (col % 96)) (Fin.ofNat 128 n))
/-- The scale of column col in batch b. -/
def argSC (x : (⟨3, ![3, 120, 96]⟩ : Shape).Idx → EReal) (b col : ℕ) : EReal :=
  x (ix3 (Fin.ofNat 3 b) (Fin.ofNat 120 (col / 96)) (Fin.ofNat 96 (col % 96)))
/-- Where the first document of batch b ends. -/
def argLV (x : (⟨1, ![3]⟩ : Shape).Idx → BitVec 32) (b : ℕ) : ℤ := (x (ix1 (Fin.ofNat 3 b))).toInt

/-- A number below n, reduced to an index below n, is itself. -/
theorem ofNat_eq {n : ℕ} [NeZero n] {k : ℕ} (h : k < n) : Fin.ofNat n k = ⟨k, h⟩ := Fin.ext (Nat.mod_eq_of_lt h)

end Cert.Carry

end
-- ==== Proof.IdealPoint.lean ====
/- What the kernel's input windows hold at a grid point, and when its blocks run. -/
module

public import proofs.«01_k».proof.Proof.IdealKit
public import proofs.«01_k».proof.Proof.IdealBody
public import Idealize.ShloMosaic.Lib.Pipeline.ValueKit.Geometry
public import proofs.«01_k».proof.Proof.IdealSlice
public import proofs.«01_k».proof.Proof.Answer

@[expose] public section

set_option maxRecDepth 16384

noncomputable section

namespace Cert.KernelIdeal.Gen

open Idealize.ShloMosaic Idealize.ShloMosaic.TcCoe
open Idealize.ShloMosaic.Rounds
open Idealize.ShloMosaic.Pipeline (Dat RDat Cfg Window)

variable (m : (ℓ : Loc nD τ sig) → Buf (Elt Ideal) ℓ) (c : Dev nD)

/-- Proof data of the kernel call over the extended reals. -/
abbrev Rd := RDat τ (Elt Ideal) Unit ℕ (UR sig nD τ) ℕ ((Pipeline.pin pcfgs fun _ => adm m) 0) c

/-- A step's coordinate is its number. -/
theorem coords_val (t : Fin (cfgM m).N) : (grid0.coords t 0).val = t.val := by
  have h : ∀ t : Fin 101, (grid0.coords t 0).val = t.val := by decide +kernel
  exact h t

/-- The count of live tokens of a batch, as the table holds it. -/
def docEnd (b : Fin 3) : BitVec 32 := m ((c : Thread nD τ).loc main_arg7) (ix1 b)

/-- A word that reads as a natural number has that value. -/
theorem toNat_of_isInt {x : BitVec 32} {n : ℕ} (h : Affine.IsInt x (n : ℤ)) : x.toNat = n := Affine.nat_eq h n rfl

/-- The table holds the document ends. -/
theorem tbl_eq : tbl m 0 = m ((c : Thread nD τ).loc main_arg7) := by
  obtain rfl : c = 0 := Subsingleton.elim _ _
  exact V_main_arg7 m 0

/-- The word a step reads is the document end of its batch. -/
theorem smem_word (i : grid0.Coords) (hi : (i 0).val < 96) :
    smemWord c (Memref.whole main_arg7) (tbl m 0) i = docEnd m c ⟨(i 0).val / 32, by omega⟩ := by
  rw [tbl_eq m c]
  unfold smemWord docEnd
  have h : ∀ n : Fin 96, (Scalar.indexCast (Scalar.minsi (Scalar.divsi (BitVec.ofNat 32 n.val) 32#32) 2#32)).toNat = n.val / 32 := by decide +kernel
  refine congrArg (m ((c : Thread nD τ).loc main_arg7)) ?_
  funext a; apply Fin.ext; fin_cases a
  exact h ⟨_, hi⟩

/-- The chunk number a step computes. -/
theorem chunk_word (i : grid0.Coords) (hi : (i 0).val < 96) : chunkWord i = BitVec.ofNat 32 ((i 0).val % 32) := by
  have h : ∀ n : Fin 96, Scalar.subi (BitVec.ofNat 32 n.val) (Scalar.muli (Scalar.minsi (Scalar.divsi (BitVec.ofNat 32 n.val) 32#32) 2#32) 32#32)
      = BitVec.ofNat 32 (n.val % 32) := by decide +kernel
  exact h ⟨_, hi⟩

/-- A batch starts at the steps that 32 divides. -/
theorem start_iff (i : grid0.Coords) (hi : (i 0).val < 96) : startCond i = 1#1 ↔ (i 0).val % 32 = 0 := by
  have h : ∀ n : Fin 96, Scalar.cmpi .ne (Scalar.extui (Scalar.andi (Scalar.cmpi .slt (BitVec.ofNat 32 n.val) 96#32) (Scalar.cmpi .eq (BitVec.ofNat 32 (n.val % 32)) 0#32)) : BitVec 32) 0#32 = 1#1 ↔ n.val % 32 = 0 := by
    decide +kernel
  rw [← h ⟨_, hi⟩]
  unfold startCond; rw [chunk_word i hi]

/-- A small number as a word is below a word, in the signed order, when it is below the word's signed value. -/
theorem slt_ofNat (n : ℕ) (hn : n < 2 ^ 31) (w : BitVec 32) : Scalar.cmpi .slt (BitVec.ofNat 32 n) w = 1#1 ↔ (n : ℤ) < w.toInt := by
  have e : (BitVec.ofNat 32 n).toInt = n := by
    rw [BitVec.toInt_eq_toNat_of_lt (by rw [BitVec.toNat_ofNat]; omega), BitVec.toNat_ofNat]; congr 1; omega
  unfold Scalar.cmpi IntOp.cmpi
  dsimp only
  rw [BitVec.slt, e]
  by_cases h : (n : ℤ) < w.toInt <;> simp [h]

/-- A chunk is live when it starts before the document end. -/
theorem live_iff (i : grid0.Coords) (hi : (i 0).val < 96) (w : BitVec 32) : k0_cond2 i w = 1#1 ↔ ((256 * ((i 0).val % 32) : ℕ) : ℤ) < w.toInt := by
  have e : Scalar.muli (chunkWord i) 256#32 = BitVec.ofNat 32 (256 * ((i 0).val % 32)) := by
    have h : ∀ n : Fin 32, Scalar.muli (BitVec.ofNat 32 n.val) 256#32 = BitVec.ofNat 32 (256 * n.val) := by decide +kernel
    rw [chunk_word i hi]; exact h ⟨_, Nat.mod_lt _ (by decide)⟩
  have h0 : ∀ n : Fin 96, Scalar.cmpi .slt (BitVec.ofNat 32 n.val) 96#32 = 1#1 := by decide +kernel
  have h1 : ∀ x b : BitVec 1, x = 1#1 → (Scalar.cmpi .ne (Scalar.extui (Scalar.andi x b) : BitVec 32) 0#32 = 1#1 ↔ b = 1#1) := by decide +kernel
  rw [← slt_ofNat _ (by omega), ← e]
  exact h1 _ _ (h0 ⟨_, hi⟩)

/-- A chunk is copied when it is not live. -/
theorem copy_iff (i : grid0.Coords) (hi : (i 0).val < 96) (w : BitVec 32) : k0_cond3 i w = 1#1 ↔ ¬ k0_cond2 i w = 1#1 := by
  have h0 : ∀ n : Fin 96, Scalar.cmpi .slt (BitVec.ofNat 32 n.val) 96#32 = 1#1 := by decide +kernel
  have h1 : ∀ x b : BitVec 1, x = 1#1 → (Scalar.cmpi .ne (Scalar.extui (Scalar.andi x (Scalar.xori (Scalar.andi x b) 1#1)) : BitVec 32) 0#32 = 1#1
      ↔ ¬ Scalar.cmpi .ne (Scalar.extui (Scalar.andi x b) : BitVec 32) 0#32 = 1#1) := by decide +kernel
  exact h1 _ (Scalar.cmpi .slt (Scalar.muli (chunkWord i) 256#32) w) (h0 ⟨_, hi⟩)

/-- The block of y at a step. -/
theorem idx0 (t : Fin (cfgM m).N) (ht : t.val < 96) : ((cfgM m).win 0).index t (0 : Fin 3) = t.val / 32 ∧ ((cfgM m).win 0).index t (1 : Fin 3) = t.val % 32
    ∧ ((cfgM m).win 0).index t (2 : Fin 3) = 0 := by
  have h : ∀ t : Fin 101, t.val < 96 → cc0_transform_0 (grid0.coords t) 0 = t.val / 32 ∧ cc0_transform_0 (grid0.coords t) 1 = t.val % 32
      ∧ cc0_transform_0 (grid0.coords t) 2 = 0 := by decide +kernel
  exact h t ht

/-- The word from which the maps of C and of the time steps work is the document end of the step's batch. -/
theorem block_word (t : Fin (cfgM m).N) (ht : t.val < 96) :
    (tbl m).at 0 (Rect.unit (s := S3) (k0_off1 (grid0.coords t)) S1.size (k0_off1_inb (grid0.coords t))) numel1_S1 = docEnd m c ⟨t / 32, by omega⟩ := by
  have h : ∀ n : Fin 96, (Scalar.indexCast (Scalar.divsi (Scalar.minsi (BitVec.ofNat 32 n.val) 95#32) 32#32)).toNat = n.val / 32 := by decide +kernel
  unfold Pipeline.Prefetch.Contents.at docEnd
  rw [tbl_eq m c]
  refine congrArg (m ((c : Thread nD τ).loc main_arg7)) ?_
  have e := coords_val m t
  funext a; apply Fin.ext; fin_cases a
  exact (h ⟨(grid0.coords t 0).val, by omega⟩).trans (by show (grid0.coords t 0).val / 32 = t.val / 32; rw [e])

/-- The index of the chunk of C, as the map computes it. -/
theorem block_index (pf : pre0.Contents (Elt Ideal)) (i : grid0.Coords) : cc0_transform_1 k0_off1_inb numel1_S1 pf i 1
    = (liveWord (BitVec.ofNat 32 (i 0).val) (pf.at 0 (Rect.unit (s := S3) (k0_off1 i) S1.size (k0_off1_inb i)) numel1_S1)).toNat := by
  have key : ∀ (n w : BitVec 32) (x z : ℕ), (![x, (Scalar.minsi
      (Scalar.subi (Scalar.minsi n 95#32) (Scalar.muli (Scalar.divsi (Scalar.minsi n 95#32) 32#32) 32#32))
      (Scalar.divsi (Scalar.subi (Scalar.minsi (8192#32) (Scalar.maxsi (1#32) w)) 1#32) 256#32)).toNat, z] : Fin 3 → ℕ) 1 = (liveWord n w).toNat :=
    fun _ _ _ _ => rfl
  exact key _ _ _ _

/-- The block of C at a step: its batch's, and its own chunk's when the chunk is live. -/
theorem idx1 (t : Fin (cfgM m).N) (ht : t.val < 96) : ((cfgM m).win 1).index t (0 : Fin 3) = t.val / 32
    ∧ (((256 * (t % 32) : ℕ) : ℤ) < (docEnd m c ⟨t / 32, by omega⟩).toInt → ((cfgM m).win 1).index t (1 : Fin 3) = t.val % 32)
    ∧ ((cfgM m).win 1).index t (2 : Fin 3) = 0 := by
  refine ⟨?_, fun hl => ?_, rfl⟩
  · have := toNat_of_isInt (batchWord_isInt t.val t.isLt)
    rw [← coords_val m t] at this
    refine Eq.trans ?_ (this.trans ?_)
    · rfl
    · rw [coords_val]; omega
  · have e : (((cfgM m).win 1).index t : Fin 3 → ℕ) = cc0_transform_1 k0_off1_inb numel1_S1 (tbl m) (grid0.coords t) := rfl
    refine (congrFun e (1 : Fin 3)).trans ((block_index (tbl m) (grid0.coords t)).trans ?_)
    rw [block_word m c t ht, coords_val]
    refine toNat_of_isInt ?_
    have := liveWord_isInt t.val t.isLt (docEnd m c ⟨t / 32, by omega⟩)
    rwa [show (((min t.val 95 % 32 : ℕ) : ℤ) ⊓ ((min 8192 (max 1 (docEnd m c ⟨t / 32, by omega⟩).toInt) - 1) / 256)) = ((t.val % 32 : ℕ) : ℤ) from by omega] at this

/-- The index of the chunk of the time steps, as the map computes it. -/
theorem block_index2 (pf : pre0.Contents (Elt Ideal)) (i : grid0.Coords) : cc0_transform_2 k0_off1_inb numel1_S1 pf i 1
    = (liveWord (BitVec.ofNat 32 (i 0).val) (pf.at 0 (Rect.unit (s := S3) (k0_off1 i) S1.size (k0_off1_inb i)) numel1_S1)).toNat := by
  have key : ∀ (n w : BitVec 32) (x z : ℕ), (![x, (Scalar.minsi
      (Scalar.subi (Scalar.minsi n 95#32) (Scalar.muli (Scalar.divsi (Scalar.minsi n 95#32) 32#32) 32#32))
      (Scalar.divsi (Scalar.subi (Scalar.minsi (8192#32) (Scalar.maxsi (1#32) w)) 1#32) 256#32)).toNat, z] : Fin 3 → ℕ) 1 = (liveWord n w).toNat :=
    fun _ _ _ _ => rfl
  exact key _ _ _ _

/-- The block of the time steps at a step: its batch's, and its own chunk's when the chunk is live. -/
theorem idx2 (t : Fin (cfgM m).N) (ht : t.val < 96) : ((cfgM m).win 2).index t (0 : Fin 3) = t.val / 32
    ∧ (((256 * (t % 32) : ℕ) : ℤ) < (docEnd m c ⟨t / 32, by omega⟩).toInt → ((cfgM m).win 2).index t (1 : Fin 3) = t.val % 32)
    ∧ ((cfgM m).win 2).index t (2 : Fin 3) = 0 := by
  refine ⟨?_, fun hl => ?_, rfl⟩
  · have := toNat_of_isInt (batchWord_isInt t.val t.isLt)
    rw [← coords_val m t] at this
    refine Eq.trans ?_ (this.trans ?_)
    · rfl
    · rw [coords_val]; omega
  · have e : (((cfgM m).win 2).index t : Fin 3 → ℕ) = cc0_transform_2 k0_off1_inb numel1_S1 (tbl m) (grid0.coords t) := rfl
    refine (congrFun e (1 : Fin 3)).trans ((block_index2 (tbl m) (grid0.coords t)).trans ?_)
    rw [block_word m c t ht, coords_val]
    refine toNat_of_isInt ?_
    have := liveWord_isInt t.val t.isLt (docEnd m c ⟨t / 32, by omega⟩)
    rwa [show (((min t.val 95 % 32 : ℕ) : ℤ) ⊓ ((min 8192 (max 1 (docEnd m c ⟨t / 32, by omega⟩).toInt) - 1) / 256)) = ((t.val % 32 : ℕ) : ℤ) from by omega] at this

/-- The block of the logarithms of the decay rates is the whole row. -/
theorem idx3 (t : Fin (cfgM m).N) : ((cfgM m).win 3).index t (0 : Fin 2) = 0 ∧ ((cfgM m).win 3).index t (1 : Fin 2) = 0 := ⟨rfl, rfl⟩

/-- The block of the codes at a step is its batch's. -/
theorem idx4 (t : Fin (cfgM m).N) (ht : t.val < 96) : ((cfgM m).win 4).index t (0 : Fin 3) = t.val / 32 ∧ ((cfgM m).win 4).index t (1 : Fin 3) = 0
    ∧ ((cfgM m).win 4).index t (2 : Fin 3) = 0 := by
  have h : ∀ t : Fin 101, t.val < 96 → cc0_transform_4 (grid0.coords t) 0 = t.val / 32 ∧ cc0_transform_4 (grid0.coords t) 1 = 0
      ∧ cc0_transform_4 (grid0.coords t) 2 = 0 := by decide +kernel
  exact h t ht

/-- The block of the scales at a step is its batch's. -/
theorem idx5 (t : Fin (cfgM m).N) (ht : t.val < 96) : ((cfgM m).win 5).index t (0 : Fin 3) = t.val / 32 ∧ ((cfgM m).win 5).index t (1 : Fin 3) = 0
    ∧ ((cfgM m).win 5).index t (2 : Fin 3) = 0 := by
  have h : ∀ t : Fin 101, t.val < 96 → cc0_transform_5 (grid0.coords t) 0 = t.val / 32 ∧ cc0_transform_5 (grid0.coords t) 1 = 0
      ∧ cc0_transform_5 (grid0.coords t) 2 = 0 := by decide +kernel
  exact h t ht

/-- The arguments as the launch memory holds them, at natural-number indices. -/
abbrev aY := Carry.argY (m ((c : Thread nD τ).loc main_arg0))
/-- C, by numbers. -/
abbrev aC := Carry.argC (m ((c : Thread nD τ).loc main_arg1))
/-- The time steps, by numbers. -/
abbrev aDT := Carry.argDT (m ((c : Thread nD τ).loc main_arg2))
/-- The logarithms of the decay rates, by numbers. -/
abbrev aAL := Carry.argAL (m ((c : Thread nD τ).loc main_arg3))
/-- The codes, by numbers. -/
abbrev aCD := Carry.argCD (m ((c : Thread nD τ).loc main_arg4))
/-- The scales, by numbers. -/
abbrev aSC := Carry.argSC (m ((c : Thread nD τ).loc main_arg5))
/-- The document ends, by numbers. -/
abbrev aLV := Carry.argLV (m ((c : Thread nD τ).loc main_arg7))

/-- The reshaped C. -/
theorem V_main_v0_at (b : Fin 3) (i : Fin 8192) (k : Fin 1024) : V m c main_v0 (ix3 (n0 := 3) (n1 := 8192) (n2 := 1024) b i k) = aC m c b i k := by
  rw [show V m c main_v0 = shapeCast S3x8192x1024 (m ((c : Thread nD τ).loc main_arg1)) shapeCasts_S3x8192x8x128_S3x8192x1024 from rfl]
  refine shapeCast_apply _ _ _ (ix4 (Fin.ofNat 3 b) (Fin.ofNat 8192 i) (Fin.ofNat 8 (k / 128)) (Fin.ofNat 128 (k % 128))) ?_
  rw [Carry.ofNat_eq b.isLt, Carry.ofNat_eq i.isLt, Carry.ofNat_eq (show (k : ℕ) / 128 < 8 by omega), Carry.ofNat_eq (show (k : ℕ) % 128 < 128 by omega)]
  erw [Shape.rowMajor_val_four, Shape.rowMajor_val_three]
  show ((b.val * 8192 + i.val) * 8 + k.val / 128) * 128 + k.val % 128 = (b.val * 8192 + i.val) * 1024 + k.val
  omega

/-- The reshaped logarithms of the decay rates. -/
theorem V_main_v1_at (l : Fin 120) : V m c main_v1 (ix2 (n0 := 1) (n1 := 120) 0 l) = aAL m c l := by
  rw [show V m c main_v1 = shapeCast S1x120 (m ((c : Thread nD τ).loc main_arg3)) shapeCasts_S120_S1x120 from rfl]
  unfold aAL Carry.argAL
  pointwise
  rw [Carry.ofNat_eq l.isLt]

/-- The reshaped codes. -/
theorem V_main_v2_at (b : Fin 3) (col : Fin 11520) (n : Fin 128) : V m c main_v2 (ix3 (n0 := 3) (n1 := 11520) (n2 := 128) b col n) = aCD m c b col n := by
  rw [show V m c main_v2 = shapeCast S3x11520x128 (m ((c : Thread nD τ).loc main_arg4)) shapeCasts_S3x120x96x128_S3x11520x128 from rfl]
  refine shapeCast_apply _ _ _ (ix4 (Fin.ofNat 3 b) (Fin.ofNat 120 (col / 96)) (Fin.ofNat 96 (col % 96)) (Fin.ofNat 128 n)) ?_
  rw [Carry.ofNat_eq b.isLt, Carry.ofNat_eq n.isLt, Carry.ofNat_eq (show (col : ℕ) / 96 < 120 by omega), Carry.ofNat_eq (show (col : ℕ) % 96 < 96 by omega)]
  erw [Shape.rowMajor_val_four, Shape.rowMajor_val_three]
  show ((b.val * 120 + col.val / 96) * 96 + col.val % 96) * 128 + n.val = (b.val * 11520 + col.val) * 128 + n.val
  omega

/-- A chunk with a live token. -/
abbrev liveAt (t : ℕ) : Prop := ((256 * (t % 32) : ℕ) : ℤ) < aLV m c (t / 32)

/-- The document end is the word's signed value. -/
theorem aLV_eq {b : ℕ} (hb : b < 3) : aLV m c b = (docEnd m c ⟨b, hb⟩).toInt := by
  unfold aLV Carry.argLV docEnd; rw [Carry.ofNat_eq hb]

variable {m c} {rd : Rd m c} (hA : ∀ w, rd.A w = V m c (Pipeline.arrRef spec0 w))
  (hkeep : ∀ w, (spec0 w).isOut = false → ∀ t Y X, rd.after w t Y X → X = Y)

include hA hkeep

/-- What a step finds of y. -/
theorem found0 (t : Fin (cfgM m).N) (ht : t.val < 96) (Y) (h : rd.Finds 0 t Y) (r : Fin 256) (col : Fin 11520) :
    Y (ix3 (n0 := 1) (n1 := 256) (n2 := 11520) 0 r col) = aY m c (t / 32) (256 * (t % 32) + r) col := by
  obtain ⟨d, rfl⟩ := RDat.finds_in_eq_fetched rd 0 rfl (fun _ _ _ => rfl) (hkeep 0 rfl) t Y h
  have e : rd.fetched 0 t d = (((cfgM m).win 0).blk t).view.read (Elt Ideal) (V m c main_arg0) := by
    unfold RDat.fetched RDat.blockOf; rw [hA]; rfl
  rw [e, V_main_arg0, aY, Carry.argY, Carry.ofNat_eq (show t.val / 32 < 3 by omega), Carry.ofNat_eq (show 256 * (t.val % 32) + (r : ℕ) < 8192 by omega), Carry.ofNat_eq col.isLt]
  refine congrArg (m ((c : Thread nD τ).loc main_arg0)) ?_
  obtain ⟨h0, h1, h2⟩ := idx0 (m := m) t ht
  funext a; apply Fin.ext; fin_cases a <;> blk_simp
  · exact h0
  · rw [h1 ]; show _ + (r : ℕ) = 256 * _ + (r : ℕ); omega
  · rw [h2, Nat.zero_mul, Nat.zero_add]; rfl

/-- What a live step finds of C. -/
theorem found1 (t : Fin (cfgM m).N) (ht : t.val < 96) (hl : liveAt m c t) (Y) (h : rd.Finds 1 t Y) (r : Fin 256) (k : Fin 1024) :
    Y (ix3 (n0 := 1) (n1 := 256) (n2 := 1024) 0 r k) = aC m c (t / 32) (256 * (t % 32) + r) k := by
  obtain ⟨d, rfl⟩ := RDat.finds_in_eq_fetched rd 1 rfl (fun _ _ _ => rfl) (hkeep 1 rfl) t Y h
  have e : rd.fetched 1 t d = (((cfgM m).win 1).blk t).view.read (Elt Ideal) (V m c main_v0) := by
    unfold RDat.fetched RDat.blockOf; rw [hA]; rfl
  rw [e]
  unfold liveAt at hl
  rw [aLV_eq m c (show t.val / 32 < 3 by omega)] at hl
  refine Eq.trans ?_ (V_main_v0_at m c ⟨t / 32, by omega⟩ ⟨256 * (t % 32) + r, by omega⟩ k)
  refine congrArg (V m c main_v0) ?_
  obtain ⟨h0, h1, h2⟩ := idx1 (m := m) (c := c) t ht
  funext a; apply Fin.ext; fin_cases a <;> blk_simp
  · exact h0
  · rw [h1 hl]; show _ + (r : ℕ) = 256 * _ + (r : ℕ); omega
  · rw [h2, Nat.zero_mul, Nat.zero_add]; rfl

/-- What a live step finds of the time steps. -/
theorem found2 (t : Fin (cfgM m).N) (ht : t.val < 96) (hl : liveAt m c t) (Y) (h : rd.Finds 2 t Y) (r : Fin 256) (l : Fin 120) :
    Y (ix3 (n0 := 1) (n1 := 256) (n2 := 120) 0 r l) = aDT m c (t / 32) (256 * (t % 32) + r) l := by
  obtain ⟨d, rfl⟩ := RDat.finds_in_eq_fetched rd 2 rfl (fun _ _ _ => rfl) (hkeep 2 rfl) t Y h
  have e : rd.fetched 2 t d = (((cfgM m).win 2).blk t).view.read (Elt Ideal) (V m c main_arg2) := by
    unfold RDat.fetched RDat.blockOf; rw [hA]; rfl
  rw [e, V_main_arg2, aDT, Carry.argDT, Carry.ofNat_eq (show t.val / 32 < 3 by omega), Carry.ofNat_eq (show 256 * (t.val % 32) + (r : ℕ) < 8192 by omega), Carry.ofNat_eq l.isLt]
  unfold liveAt at hl
  rw [aLV_eq m c (show t.val / 32 < 3 by omega)] at hl
  refine congrArg (m ((c : Thread nD τ).loc main_arg2)) ?_
  obtain ⟨h0, h1, h2⟩ := idx2 (m := m) (c := c) t ht
  funext a; apply Fin.ext; fin_cases a <;> blk_simp
  · exact h0
  · rw [h1 hl]; show _ + (r : ℕ) = 256 * _ + (r : ℕ); omega
  · rw [h2, Nat.zero_mul, Nat.zero_add]; rfl

/-- What a step finds of the logarithms of the decay rates. -/
theorem found3 (t : Fin (cfgM m).N) (Y) (h : rd.Finds 3 t Y) (l : Fin 120) :
    Y (ix2 (n0 := 1) (n1 := 120) 0 l) = aAL m c l := by
  obtain ⟨d, rfl⟩ := RDat.finds_in_eq_fetched rd 3 rfl (fun _ _ _ => rfl) (hkeep 3 rfl) t Y h
  have e : rd.fetched 3 t d = (((cfgM m).win 3).blk t).view.read (Elt Ideal) (V m c main_v1) := by
    unfold RDat.fetched RDat.blockOf; rw [hA]; rfl
  rw [e]
  refine Eq.trans ?_ (V_main_v1_at m c l)
  refine congrArg (V m c main_v1) ?_
  obtain ⟨h0, h1⟩ := idx3 (m := m) t
  funext a; apply Fin.ext; fin_cases a <;> blk_simp
  · rw [h0]
  · rw [h1, Nat.zero_mul, Nat.zero_add]

/-- What a step finds of the codes. -/
theorem found4 (t : Fin (cfgM m).N) (ht : t.val < 96) (Y) (h : rd.Finds 4 t Y) (col : Fin 11520) (n : Fin 128) :
    Y (ix3 (n0 := 1) (n1 := 11520) (n2 := 128) 0 col n) = aCD m c (t / 32) col n := by
  obtain ⟨d, rfl⟩ := RDat.finds_in_eq_fetched rd 4 rfl (fun _ _ _ => rfl) (hkeep 4 rfl) t Y h
  have e : rd.fetched 4 t d = (((cfgM m).win 4).blk t).view.read (Elt Ideal) (V m c main_v2) := by
    unfold RDat.fetched RDat.blockOf; rw [hA]; rfl
  rw [e]
  refine Eq.trans ?_ (V_main_v2_at m c ⟨t / 32, by omega⟩ col n)
  refine congrArg (V m c main_v2) ?_
  obtain ⟨h0, h1, h2⟩ := idx4 (m := m) t ht
  funext a; apply Fin.ext; fin_cases a <;> blk_simp
  · exact h0
  · rw [h1, Nat.zero_mul, Nat.zero_add]; rfl
  · rw [h2, Nat.zero_mul, Nat.zero_add]; rfl

/-- What a step finds of the scales. -/
theorem found5 (t : Fin (cfgM m).N) (ht : t.val < 96) (Y) (hf : rd.Finds 5 t Y) (h : Fin 120) (p : Fin 96) :
    Y (ix3 (n0 := 1) (n1 := 120) (n2 := 96) 0 h p) = aSC m c (t / 32) (96 * h + p) := by
  obtain ⟨d, rfl⟩ := RDat.finds_in_eq_fetched rd 5 rfl (fun _ _ _ => rfl) (hkeep 5 rfl) t Y hf
  have e : rd.fetched 5 t d = (((cfgM m).win 5).blk t).view.read (Elt Ideal) (V m c main_arg5) := by
    unfold RDat.fetched RDat.blockOf; rw [hA]; rfl
  rw [e, V_main_arg5, aSC, Carry.argSC, Carry.ofNat_eq (show t.val / 32 < 3 by omega), Carry.ofNat_eq (show (96 * (h : ℕ) + p) / 96 < 120 by omega), Carry.ofNat_eq (show (96 * (h : ℕ) + p) % 96 < 96 by omega)]
  refine congrArg (m ((c : Thread nD τ).loc main_arg5)) ?_
  obtain ⟨h0, h1, h2⟩ := idx5 (m := m) t ht
  funext a; apply Fin.ext; fin_cases a <;> blk_simp
  · exact h0
  · rw [h1, Nat.zero_mul, Nat.zero_add]; show (h : ℕ) = (96 * (h : ℕ) + p) / 96; omega
  · rw [h2, Nat.zero_mul, Nat.zero_add]; show (p : ℕ) = (96 * (h : ℕ) + p) % 96; omega

end Cert.KernelIdeal.Gen

end
-- ==== Proof.IdealStart.lean ====
/- What the kernel lays out at the first chunk of a batch, over the extended reals. -/
module

public import proofs.«01_k».proof.Proof.IdealSlice
public import proofs.«01_k».proof.Proof.IdealRunStart

@[expose] public section

set_option maxRecDepth 16384

noncomputable section

namespace Cert.KernelIdeal.Gen

open Idealize.ShloMosaic Idealize.ShloMosaic.TcCoe

variable {c : Dev nD} {arg6 : Memref sig .tc .vmem S1x11520x128 .fp8e4m3} {arg7 : Memref sig .tc .vmem S1x120x96 .f32}
  {arg17 : Memref sig .tc .vmem S1x128 .f32} {arg14 : Memref sig .tc .vmem S11520x128 .bf16} {arg15 : Memref sig .tc .vmem S7x256x256 .bf16}
  {arg16 : Memref sig .tc .vmem S3x32x128 .f32}
  {f6 : Bf (F := Ideal) c arg6} {f7 : Bf (F := Ideal) c arg7} {f16 : Bf (F := Ideal) c arg16} {CD : ℕ → ℕ → EReal} {SC : ℕ → EReal}

/-- A strided row of scales. -/
theorem strided_at (hSC : ∀ (h : Fin 120) (p : Fin 96), arg7.view.read (Elt Ideal) f7 (ix3 0 h p) = SC (96 * h + p)) {o : ℕ}
    (ho : o < 4) {inb} (q : Fin 30) (l : Fin 96) {j : ℕ} (hj : 96 * (4 * (q : ℕ) + o) + l = j) :
    View.readAt (Elt Ideal) arg7.view ({ off := ![0, o, 0], size := ![1, 30, 96], stride := ![1, 4, 1], inb := inb } : LoadRect S1x120x96)
      f7 (ix3 (n0 := 1) (n1 := 30) (n2 := 96) 0 q l) = SC j := by
  rw [View.readAt_apply]
  have e : LoadRect.idx ({ off := ![0, o, 0], size := ![1, 30, 96], stride := ![1, 4, 1], inb := inb } : LoadRect S1x120x96)
      (ix3 (n0 := 1) (n1 := 30) (n2 := 96) 0 q l) = ix3 0 ⟨4 * q + o, by omega⟩ l := by
    funext a; apply Fin.ext; fin_cases a
    · rfl
    · show o + 4 * (q : ℕ) = 4 * q + o; omega
    · show 0 + 1 * (l : ℕ) = l; omega
  rw [e, hSC, ← hj]

/-- The scales by lane: entry `(k, q, lane)` belongs to column `384 q + 128 k + lane`. -/
theorem scales_at (hSC : ∀ (h : Fin 120) (p : Fin 96), arg7.view.read (Elt Ideal) f7 (ix3 0 h p) = SC (96 * h + p))
    (k : Fin 3) (q : Fin 32) (lane : Fin 128) (hq : (q : ℕ) < 30) :
    arg16.view.read (Elt Ideal) (arg16.view.writes (Elt Ideal) f16 (startRun.sl.H16_3 c arg7 f7)) (ix3 k q lane)
      = SC (384 * q + 128 * k + lane) := by
  have hG : ∀ p ∈ startRun.sl.H16_3 c arg7 f7, Good (e := .f32) (fun i : S3x32x128.Idx => SC (384 * (i 1 : ℕ) + 128 * (i 0 : ℕ) + (i 2 : ℕ))) p := by
    refine good_cons ?_ (good_cons ?_ (good_cons ?_ good_nil)) <;>
    · intro x
      obtain ⟨a, q, lane, rfl⟩ : ∃ (a : Fin 1) (q : Fin 30) (lane : Fin 128), x = ix3 a q lane := ⟨x 0, x 1, x 2, (ix3_eta x).symm⟩
      try unfold startRun.sl.r startRun.sl.r_1
      unfold_payloads
      pointwise
      split <;> refine strided_at hSC (by decide) _ _ ?_ <;> simp only [Rect.emb_apply] <;> dsimp <;> omega
  have hc : ∃ p ∈ startRun.sl.H16_3 c arg7 f7, (ix3 k q lane : S3x32x128.Idx) ∈ p.1.set := by
    have hm : ∀ (j : ℕ) (hj : (k : ℕ) = j) (inb), (ix3 k q lane : S3x32x128.Idx) ∈ (Rect.unit (s := S3x32x128) ![j, 0, 0] S1x30x128.size inb).set := by
      rintro j rfl inb
      refine Rect.mem_set_unit.mpr fun a => ?_
      fin_cases a
      · exact ⟨Nat.le_refl _, Nat.lt_succ_self _⟩
      · exact ⟨Nat.zero_le _, by show (q : ℕ) < 0 + 30; omega⟩
      · exact ⟨Nat.zero_le _, by show (lane : ℕ) < 0 + 128; omega⟩
    unfold startRun.sl.H16_3 startRun.sl.H16_2
    obtain h | h | h : (k : ℕ) = 2 ∨ (k : ℕ) = 1 ∨ (k : ℕ) = 0 := by omega
    · exact ⟨_, List.mem_cons_self, hm 2 h inb_S3x32x128_S1x30x128_2_0_0⟩
    · exact ⟨_, List.mem_cons_of_mem _ List.mem_cons_self, hm 1 h inb_S3x32x128_S1x30x128_1_0_0⟩
    · exact ⟨_, List.mem_cons_of_mem _ (List.mem_cons_of_mem _ List.mem_cons_self), hm 0 h inb_S3x32x128_S1x30x128_0_0_0⟩
  exact (View.read_writes_apply_eq_canon _ _ _ _ hc).trans (View.canon_apply_of_pieces (fun i : S3x32x128.Idx => SC (384 * (i 1 : ℕ) + 128 * (i 0 : ℕ) + (i 2 : ℕ))) _ hG _ hc)

/-- The codes copied to the scratch. -/
theorem codes_at (hCD : ∀ (col : Fin 11520) (n : Fin 128), arg6.view.read (Elt Ideal) f6 (ix3 0 col n) = CD col n)
    (col : Fin 11520) (n : Fin 128) :
    arg14.view.read (Elt Ideal) (arg14.view.writes (Elt Ideal) arg14.view.junk (startRun.sl.H14_1 c arg6 f6)) (ix2 col n) = CD col n := by
  unfold startRun.sl.H14_1
  rw [View.read_writes_junk_eq_canon]
  have e : (ix2 col n : S11520x128.Idx) = (Rect.unit (s := S11520x128) ![0, 0] S11520x128.size inb_S11520x128_S11520x128_0_0).emb (ix2 col n) := by
    funext a; apply Fin.ext; fin_cases a <;> simp [Rect.emb_apply]
  rw [e, View.canon_cons_emb]
  unfold_payloads
  simp only [View.readAt_eq_ld]
  pointwise
  refine Eq.trans (congrArg _ ?_) (hCD col n)
  funext a; apply Fin.ext; fin_cases a <;> simp [Rect.emb_apply]

/-- One half of an edge tile: the codes where `first` says so, zero elsewhere. -/
def edgeV (first : Bool) (wt wg : BitVec 32) (x : Vec Ideal S1x256x128 .fp8e4m3) : FVec Ideal S1x256x128 .bf16 :=
  shapeCast S1x256x128
    (truncf .bf16
      (let s := cmpi .slt (addi (iota .tc S256x128 32 [0] iota_S256x128_d0_w32) (broadcast S256x128 wt)) (broadcast S256x128 wg)
       let z : FVec Ideal S256x128 .f32 := broadcast S256x128 (Scalar.ofBits .f32 0x00000000#32 : Ideal .f32)
       let v : FVec Ideal S256x128 .f32 := extf .f32 (shapeCast S256x128 x shapeCasts_S1x256x128_S256x128) bitsLt_fp8e4m3_f32
       bif first then select s v z else select s z v) bitsLt_bf16_f32)
    shapeCasts_S256x128_S1x256x128

/-- The comparison of a row with the edge of a group. -/
theorem rowWord {r t g : ℕ} (hr : r < 256) (ht : t < 12000) (hg : g < 12000) :
    IntOp.cmpi CmpIPredicate.slt (IntOp.addi (BitVec.ofNat 32 r) (BitVec.ofNat 32 t)) (BitVec.ofNat 32 g)
      = BitVec.ofBool (decide (t + r < g)) := by
  show BitVec.ofBool ((BitVec.ofNat 32 r + BitVec.ofNat 32 t).slt (BitVec.ofNat 32 g)) = _
  congr 1
  rw [← BitVec.ofNat_add, BitVec.slt, decide_eq_decide]
  have hn : ∀ n : ℕ, n < 2 ^ 31 → (BitVec.ofNat 32 n).toInt = n := fun n h => by
    rw [BitVec.toInt_eq_toNat_of_lt] <;> rw [BitVec.toNat_ofNat] <;> omega
  rw [hn _ (by omega), hn _ (by omega)]
  omega

/-- A tile of codes with one side of the edge put to zero. -/
theorem edgeV_at (first : Bool) {t g : ℕ} (ht : t < 12000) (hg : g < 12000) (x : Vec Ideal S1x256x128 .fp8e4m3) (r : Fin 256) (n : Fin 128) :
    edgeV first (BitVec.ofNat 32 t) (BitVec.ofNat 32 g) x (ix3 0 r n)
      = if (first = true) ↔ t + (r : ℕ) < g then x (ix3 0 r n) else 0 := by
  cases first <;> unfold edgeV <;> dsimp only [cond] <;> pointwise <;> rw [rowWord r.isLt ht hg] <;>
    by_cases h : t + (r : ℕ) < g <;> simp [h, Scalar.select]

/-- A tile across two groups is in bounds. -/
theorem inb_tile {s : ℕ} (hs : s < 7) (a : Fin 3) :
    (![0, 256 * (1440 * (s + 1) / 256), 0] : Fin 3 → ℕ) a + S1x256x128.size a ≤ S1x11520x128.size a := by
  fin_cases a <;> first | exact Nat.le_refl _ | (show 256 * (1440 * (s + 1) / 256) + 256 ≤ 11520; omega)

/-- The codes of the tiles that meet a group's edge: the left half holds the codes of the rows before the edge, the right half
    those of the rows from it on, and both are zero elsewhere. -/
def edgeCodes (CD : ℕ → ℕ → EReal) : S7x256x256.Idx → EReal := fun i =>
  if (i 2 : ℕ) < 128 ↔ 256 * (1440 * ((i 0 : ℕ) + 1) / 256) + (i 1 : ℕ) < 1440 * ((i 0 : ℕ) + 1) then
    CD (256 * (1440 * ((i 0 : ℕ) + 1) / 256) + (i 1 : ℕ)) ((i 2 : ℕ) % 128) else 0

/-- One stored half of such a tile. -/
theorem edge_piece (hCD : ∀ (col : Fin 11520) (n : Fin 128), arg6.view.read (Elt Ideal) f6 (ix3 0 col n) = CD col n)
    {s o : ℕ} (hs : s < 7) (first : Bool) (ho : o = bif first then 0 else 128)
    {inb : ∀ a, (![s, 0, o] : Fin 3 → ℕ) a + S1x256x128.size a ≤ S7x256x256.size a} {P : FVec Ideal S1x256x128 .bf16}
    (hP : P = edgeV first (BitVec.ofNat 32 (256 * (1440 * (s + 1) / 256))) (BitVec.ofNat 32 (1440 * (s + 1)))
      (View.readAt (Elt Ideal) arg6.view (Rect.unit (s := S1x11520x128) ![0, 256 * (1440 * (s + 1) / 256), 0] S1x256x128.size (inb_tile hs)).toLoadRect f6)) :
    Good (e := .bf16) (edgeCodes CD) ⟨Rect.unit (s := S7x256x256) ![s, 0, o] S1x256x128.size inb, P⟩ := by
  subst hP
  intro x
  obtain ⟨a, r, n, rfl⟩ : ∃ (a : Fin 1) (r : Fin 256) (n : Fin 128), x = ix3 a r n := ⟨x 0, x 1, x 2, (ix3_eta x).symm⟩
  obtain rfl : a = 0 := Subsingleton.elim _ _
  have hI : (Rect.unit (s := S7x256x256) ![s, 0, o] S1x256x128.size inb).emb (ix3 0 r n) = ix3 ⟨s, hs⟩ r ⟨o + n, by cases first <;> simp at ho <;> omega⟩ := by
    funext a; apply Fin.ext; fin_cases a <;> simp [Rect.emb_apply]
  refine (edgeV_at first (by omega) (by omega) _ r n).trans ?_
  rw [hI]
  have hX : (View.readAt (Elt Ideal) arg6.view (Rect.unit (s := S1x11520x128) ![0, 256 * (1440 * (s + 1) / 256), 0] S1x256x128.size (inb_tile hs)).toLoadRect f6)
      (ix3 0 r n) = CD (256 * (1440 * (s + 1) / 256) + r) n := by
    rw [View.readAt_apply]
    refine Eq.trans (congrArg _ ?_) (hCD ⟨256 * (1440 * (s + 1) / 256) + r, by omega⟩ n)
    funext a; apply Fin.ext; fin_cases a
    · rfl
    · show 256 * (1440 * (s + 1) / 256) + 1 * (r : ℕ) = _; simp
    · show 0 + 1 * (n : ℕ) = n; omega
  erw [hX]
  show _ = if (o + n : ℕ) < 128 ↔ 256 * (1440 * (s + 1) / 256) + (r : ℕ) < 1440 * (s + 1) then
    CD (256 * (1440 * (s + 1) / 256) + (r : ℕ)) ((o + n : ℕ) % 128) else 0
  rw [show (o + n : ℕ) % 128 = n by cases first <;> simp at ho <;> omega]
  have hF : (o + n : ℕ) < 128 ↔ first = true := by cases first <;> simp at ho ⊢ <;> omega
  simp only [hF]

/-- What the scratch holds of the tiles across two groups. -/
theorem edge_at (hCD : ∀ (col : Fin 11520) (n : Fin 128), arg6.view.read (Elt Ideal) f6 (ix3 0 col n) = CD col n) :
    arg15.view.read (Elt Ideal) (arg15.view.writes (Elt Ideal) arg15.view.junk (startRun.sl.H15_14 c arg6 f6)) = edgeCodes CD := by
  rw [View.read_writes_junk_eq_canon]
  funext y
  refine View.canon_apply_of_pieces _ _ ?_ y (View.cover_of_tiled (startRun.sl.H15_14 c arg6 f6) S1x256x128.size (by rfl) y)
  show ∀ p ∈ startRun.sl.H15_14 c arg6 f6, Good (edgeCodes CD) p
  unfold startRun.sl.H15_14
  iterate 14
    refine good_cons ?_ ?_
    · first
      | refine edge_piece hCD (by decide) true (by decide) ?_
      | refine edge_piece hCD (by decide) false (by decide) ?_
      unfold edgeV
      dsimp only [cond, Nat.reduceMul, Nat.reduceAdd, Nat.reduceDiv, startRun.sl.r_2, startRun.sl.r_3, startRun.sl.r_4, startRun.sl.r_5,
        startRun.sl.r_6, startRun.sl.cst_46]
      unfold_payloads
      with_reducible rfl
  exact good_nil

/-- The carry starts at zero. -/
theorem carry_start (l : Fin 128) :
    arg17.view.read (Elt Ideal) (arg17.view.writes (Elt Ideal) arg17.view.junk (startRun.sl.H17_1 (F := Ideal))) (ix2 0 l) = 0 := by
  rw [View.read_writes_junk_eq_canon]
  unfold startRun.sl.H17_1
  have e : (ix2 0 l : S1x128.Idx) = (Rect.unit (s := S1x128) ![0, 0] S1x128.size inb_S1x128_S1x128_0_0).emb (ix2 0 l) := by
    funext a; apply Fin.ext; fin_cases a <;> simp [Rect.emb_apply]
  rw [e, View.canon_cons_emb]
  unfold_payloads
  pointwise

end Cert.KernelIdeal.Gen
-- ==== Proof.IdealCorrect.lean ====
/- The corrected chunk that the kernel stores, over the extended reals: every slice of 128 columns is a slice of one function. -/
module

public import proofs.«01_k».proof.Proof.IdealSlice
public import proofs.«01_k».proof.Proof.IdealRunCorrect

@[expose] public section

set_option maxRecDepth 16384

noncomputable section

namespace Cert.KernelIdeal.Gen

open Idealize.ShloMosaic Idealize.ShloMosaic.TcCoe

/-- The slice of C for a tile within one group is in bounds. -/
theorem inb_rows128 {off : ℕ} (h : off < 11520) (a : Fin 3) :
    (![0, 0, 128 * (256 * (off / 256) / 1440)] : Fin 3 → ℕ) a + S1x256x128.size a ≤ S1x256x1024.size a := by
  fin_cases a <;> first | exact Nat.le_refl _ | (show 128 * (256 * (off / 256) / 1440) + 128 ≤ 1024; omega)

/-- The slice of C for a tile across two groups is in bounds. -/
theorem inb_rows256 {off : ℕ} (h : off < 11520) (hg : 256 * (off / 256) / 1440 + 1 = (256 * (off / 256) + 255) / 1440) (a : Fin 3) :
    (![0, 0, 128 * (256 * (off / 256) / 1440)] : Fin 3 → ℕ) a + S1x256x256.size a ≤ S1x256x1024.size a := by
  fin_cases a <;> first | exact Nat.le_refl _ | (show 128 * (256 * (off / 256) / 1440) + 256 ≤ 1024; omega)

/-- The block of codes for a tile across two groups is in bounds. -/
theorem inb_edge {off : ℕ} (h : off < 11520) (hg : 256 * (off / 256) / 1440 + 1 = (256 * (off / 256) + 255) / 1440) (a : Fin 3) :
    (![256 * (off / 256) / 1440, 0, 0] : Fin 3 → ℕ) a + S1x256x256.size a ≤ S7x256x256.size a := by
  fin_cases a <;> first | exact Nat.le_refl _ | (show 256 * (off / 256) / 1440 + 1 ≤ 7; omega)

/-- The rows of codes for a tile within one group are in bounds. -/
theorem inb_codes {off : ℕ} (h : off < 11520) (a : Fin 2) :
    (![256 * (off / 256), 0] : Fin 2 → ℕ) a + S256x128.size a ≤ S11520x128.size a := by
  fin_cases a <;> first | exact Nat.le_refl _ | (show 256 * (off / 256) + 256 ≤ 11520; omega)

/-- The row of scales for a slice of 128 columns is in bounds. -/
theorem inb_scales {off : ℕ} (h : off < 11520) (a : Fin 3) :
    (![off / 128 % 3, off / 384, 0] : Fin 3 → ℕ) a + S1x1x128.size a ≤ S3x32x128.size a := by
  fin_cases a <;> first
    | exact Nat.le_refl _ | (show off / 128 % 3 + 1 ≤ 3; omega) | (show off / 384 + 1 ≤ 32; omega)

section
variable {c : Dev nD} {arg2 : Memref sig .tc .vmem S1x256x11520 .bf16} {arg3 : Memref sig .tc .vmem S1x256x1024 .bf16}
  {arg14 : Memref sig .tc .vmem S11520x128 .bf16} {arg15 : Memref sig .tc .vmem S7x256x256 .bf16}
  {arg16 : Memref sig .tc .vmem S3x32x128 .f32}
  {f2 : Bf (F := Ideal) c arg2} {f3 : Bf (F := Ideal) c arg3} {f14 : Bf (F := Ideal) c arg14} {f15 : Bf (F := Ideal) c arg15}
  {f16 : Bf (F := Ideal) c arg16} {X32 : FVec Ideal S256x128 .f32} {C CD : ℕ → ℕ → EReal} {SC : ℕ → EReal} {D : ℕ → ℕ → EReal}

/-- A slice whose tile lies in one group of rows. -/
theorem dense_piece
    (hs : Sources (arg3.view.read (Elt Ideal) f3) (arg14.view.read (Elt Ideal) f14) (arg15.view.read (Elt Ideal) f15)
      (arg16.view.read (Elt Ideal) f16) X32 C CD SC D)
    {off : ℕ} (h0 : off % 128 = 0) (h1 : off < 11520) (hg : 256 * (off / 256) / 1440 = (256 * (off / 256) + 255) / 1440)
    (ho : S256x256.Slices ![0, off % 256] S256x128)
    {inb : ∀ a, (![0, 0, off] : Fin 3 → ℕ) a + S1x256x128.size a ≤ S1x256x11520.size a} {P : FVec Ideal S1x256x128 .bf16}
    (hP : P = sliceV (off % 256) ho (BitVec.ofNat 32 (off % 384)) (BitVec.ofNat 32 (4 * (off / 384))) X32
      (k0_pay94
        (View.readAt (Elt Ideal) arg3.view (Rect.unit (s := S1x256x1024) ![0, 0, 128 * (256 * (off / 256) / 1440)] S1x256x128.size (inb_rows128 h1)).toLoadRect f3)
        (View.readAt (Elt Ideal) arg14.view (Rect.unit (s := S11520x128) ![256 * (off / 256), 0] S256x128.size (inb_codes h1)).toLoadRect f14))
      (View.readAt (Elt Ideal) arg16.view (Rect.unit (s := S3x32x128) ![off / 128 % 3, off / 384, 0] S1x1x128.size (inb_scales h1)).toLoadRect f16)
      (View.readAt (Elt Ideal) arg2.view (Rect.unit (s := S1x256x11520) ![0, 0, off] S1x256x128.size inb).toLoadRect f2)) :
    Good (e := .bf16) (corrected (arg2.view.read (Elt Ideal) f2) C CD SC D)
      ⟨Rect.unit (s := S1x256x11520) ![0, 0, off] S1x256x128.size inb, P⟩ := by
  subst hP
  exact slice_good hs h0 h1 rfl rfl rfl rfl rfl (dense_rows hs rfl rfl hg)

/-- A slice whose tile meets the edge between two groups of rows. -/
theorem mixed_piece
    (hs : Sources (arg3.view.read (Elt Ideal) f3) (arg14.view.read (Elt Ideal) f14) (arg15.view.read (Elt Ideal) f15)
      (arg16.view.read (Elt Ideal) f16) X32 C CD SC D)
    {off : ℕ} (h0 : off % 128 = 0) (h1 : off < 11520) (hg : 256 * (off / 256) / 1440 + 1 = (256 * (off / 256) + 255) / 1440)
    (ho : S256x256.Slices ![0, off % 256] S256x128)
    {inb : ∀ a, (![0, 0, off] : Fin 3 → ℕ) a + S1x256x128.size a ≤ S1x256x11520.size a} {P : FVec Ideal S1x256x128 .bf16}
    (hP : P = sliceV (off % 256) ho (BitVec.ofNat 32 (off % 384)) (BitVec.ofNat 32 (4 * (off / 384))) X32
      (k0_pay119
        (View.readAt (Elt Ideal) arg3.view (Rect.unit (s := S1x256x1024) ![0, 0, 128 * (256 * (off / 256) / 1440)] S1x256x256.size (inb_rows256 h1 hg)).toLoadRect f3)
        (View.readAt (Elt Ideal) arg15.view (Rect.unit (s := S7x256x256) ![256 * (off / 256) / 1440, 0, 0] S1x256x256.size (inb_edge h1 hg)).toLoadRect f15))
      (View.readAt (Elt Ideal) arg16.view (Rect.unit (s := S3x32x128) ![off / 128 % 3, off / 384, 0] S1x1x128.size (inb_scales h1)).toLoadRect f16)
      (View.readAt (Elt Ideal) arg2.view (Rect.unit (s := S1x256x11520) ![0, 0, off] S1x256x128.size inb).toLoadRect f2)) :
    Good (e := .bf16) (corrected (arg2.view.read (Elt Ideal) f2) C CD SC D)
      ⟨Rect.unit (s := S1x256x11520) ![0, 0, off] S1x256x128.size inb, P⟩ := by
  subst hP
  exact slice_good hs h0 h1 rfl rfl rfl rfl rfl (mixed_rows hs rfl (by omega) (by omega))

end

variable (c : Dev nD) (arg2 : Memref sig .tc .vmem S1x256x11520 .bf16) (arg3 : Memref sig .tc .vmem S1x256x1024 .bf16)
  (arg4 : Memref sig .tc .vmem S1x256x120 .f32) (arg5 : Memref sig .tc .vmem S1x120 .f32)
  (arg11 : Memref sig .tc .vmem S1x256x11520 .bf16)
  (arg14 : Memref sig .tc .vmem S11520x128 .bf16) (arg15 : Memref sig .tc .vmem S7x256x256 .bf16)
  (arg16 : Memref sig .tc .vmem S3x32x128 .f32) (arg17 : Memref sig .tc .vmem S1x128 .f32)
  (arg19 : Memref sig .tc .vmem S256x128 .f32) (v4 v6 : BitVec 32)
  (f2 : Bf (F := Ideal) c arg2) (f3 : Bf (F := Ideal) c arg3)
  (f4 : Bf (F := Ideal) c arg4) (f5 : Bf (F := Ideal) c arg5)
  (f14 : Bf (F := Ideal) c arg14) (f15 : Bf (F := Ideal) c arg15) (f16 : Bf (F := Ideal) c arg16) (f17 : Bf (F := Ideal) c arg17)
  {C CD : ℕ → ℕ → EReal} {SC : ℕ → EReal} {D : ℕ → ℕ → EReal}

set_option maxHeartbeats 4000000 in
/-- Every slice that the correction stores holds the formula. -/
theorem pieces_good
    (hs : Sources (arg3.view.read (Elt Ideal) f3) (arg14.view.read (Elt Ideal) f14) (arg15.view.read (Elt Ideal) f15)
      (arg16.view.read (Elt Ideal) f16) (correctRun.sl.r_32 c arg4 arg5 arg17 arg19 v4 v6 f4 f5 f17) C CD SC D) :
    ∀ p ∈ correctRun.sl.H11_90 c arg2 arg3 arg4 arg5 arg14 arg15 arg16 arg17 arg19 v4 v6 f2 f3 f4 f5 f14 f15 f16 f17,
      Good (corrected (arg2.view.read (Elt Ideal) f2) C CD SC D) p := by
  unfold correctRun.sl.H11_90
  iterate 90
    refine good_cons ?_ ?_
    · first
      | exact dense_piece (X32 := correctRun.sl.r_32 c arg4 arg5 arg17 arg19 v4 v6 f4 f5 f17) hs (by decide) (by decide) (by decide)
          (by decide) (by with_unfolding_all rfl)
      | exact mixed_piece (X32 := correctRun.sl.r_32 c arg4 arg5 arg17 arg19 v4 v6 f4 f5 f17) hs (by decide) (by decide) (by decide)
          (by decide) (by with_unfolding_all rfl)
  exact good_nil

/-- The chunk the kernel stores. -/
theorem corrected_read
    (hs : Sources (arg3.view.read (Elt Ideal) f3) (arg14.view.read (Elt Ideal) f14) (arg15.view.read (Elt Ideal) f15)
      (arg16.view.read (Elt Ideal) f16) (correctRun.sl.r_32 c arg4 arg5 arg17 arg19 v4 v6 f4 f5 f17) C CD SC D) :
    arg11.view.read (Elt Ideal) (arg11.view.writes (Elt Ideal) arg11.view.junk
        (correctRun.sl.H11_90 c arg2 arg3 arg4 arg5 arg14 arg15 arg16 arg17 arg19 v4 v6 f2 f3 f4 f5 f14 f15 f16 f17))
      = corrected (arg2.view.read (Elt Ideal) f2) C CD SC D := by
  rw [View.read_writes_junk_eq_canon]
  funext y
  exact View.canon_apply_of_pieces _ _
    (pieces_good c arg2 arg3 arg4 arg5 arg14 arg15 arg16 arg17 arg19 v4 v6 f2 f3 f4 f5 f14 f15 f16 f17 hs) y
    (View.cover_of_tiled (correctRun.sl.H11_90 c arg2 arg3 arg4 arg5 arg14 arg15 arg16 arg17 arg19 v4 v6 f2 f3 f4 f5 f14 f15 f16 f17)
      S1x256x128.size (by rfl) y)

end Cert.KernelIdeal.Gen
-- ==== Proof.IdealScan.lean ====
/- Reading the kernel's running sum over the extended reals: eight rows at a time by shifted additions, and the carried row from
   one group of eight rows to the next. -/
module

public import proofs.«01_k».proof.Proof.IdealBlocks
public import Idealize.ShloMosaic.Lib.Pointwise

@[expose] public section

set_option maxRecDepth 16384

noncomputable section

namespace Cert.KernelIdeal.Gen

open Idealize.ShloMosaic Idealize.ShloMosaic.TcCoe

/-- Within a group of eight rows, row `s` holds the sum of the group's rows up to `s`. -/
theorem scan8_at (x : Vec Ideal S256x128 .f32) (L : ℕ → ℕ → EReal) (l : Fin 128)
    (hx : ∀ r : Fin 256, x (ix2 r l) = L r l) (b : Fin 32) (s : Fin 8) :
    k0_pay50 (k0_pay47 x) k0_pay48 (k0_pay49 x) (ix3 b s l) = ∑ i ∈ Finset.range (s + 1), L (8 * b + i) l := by
  unfold_payloads
  pointwise
  simp only [hx]
  have hb : (b : ℕ) * 8 = 8 * b := Nat.mul_comm _ _
  fin_cases s <;>
    simp [Finset.sum_range_succ, IntOp.cmpi, Scalar.select, hb] <;>
    ac_rfl

/-- The groups of eight rows in turn, each the group's own running sums plus one row carried from the group before, whose
    last row is carried to the next. -/
inductive Runs (S : S32x8x128.Idx → EReal) : (Fin 128 → EReal) → ℕ → List ((s : Shape) × (s.Idx → EReal)) → Prop
  | nil (c : Fin 128 → EReal) (j : ℕ) : Runs S c j []
  | cons (c : Fin 128 → EReal) (j : ℕ) (hj : j < 32) (x : S8x128.Idx → EReal) (xs : List ((s : Shape) × (s.Idx → EReal)))
      (hx : ∀ (s : Fin 8) (l : Fin 128), x (ix2 s l) = S (ix3 ⟨j, hj⟩ s l) + c l)
      (h : Runs S (fun l => x (ix2 7 l)) (j + 1) xs) : Runs S c j (⟨S8x128, x⟩ :: xs)

/-- A row of a group in a run is the carry plus the sum of the steps up to it. -/
theorem Runs.at {S : S32x8x128.Idx → EReal} {L : ℕ → ℕ → EReal} {l : Fin 128}
    (hS : ∀ (b : Fin 32) (s : Fin 8), S (ix3 b s l) = ∑ i ∈ Finset.range (s + 1), L (8 * b + i) l) :
    ∀ {c : Fin 128 → EReal} {j : ℕ} {xs : List ((s : Shape) × (s.Idx → EReal))}, Runs S c j xs →
      ∀ (k : ℕ) (hk : k < xs.length), ∃ x : S8x128.Idx → EReal, xs[k] = ⟨S8x128, x⟩ ∧
        ∀ s : Fin 8, x (ix2 s l) = c l + ∑ i ∈ Finset.range (8 * k + s + 1), L (8 * j + i) l
  | _, _, _, .nil _ _, k, hk => absurd hk (Nat.not_lt_zero _)
  | c, j, _, .cons _ _ hj x xs hx h, 0, _ => ⟨x, rfl, fun s => by
      rw [hx, hS, add_comm]; simp⟩
  | c, j, _, .cons _ _ hj x xs hx h, k + 1, hk => by
      obtain ⟨y, hy, hv⟩ := Runs.at hS h k (Nat.lt_of_succ_lt_succ hk)
      refine ⟨y, hy, fun s => ?_⟩
      have e := Finset.sum_range_add (fun i => L (8 * j + i) l) 8 (8 * k + s + 1)
      rw [hv, hx, hS, show 8 * (k + 1) + (s : ℕ) + 1 = 8 + (8 * k + s + 1) by ring, e]
      simp only [show 8 * (j + 1) = 8 * j + 8 by ring, add_assoc]
      exact add_left_comm _ _ _

/-- A group of eight rows is a slice. -/
theorem slices_group (j : ℕ) (hj : j < 32) : S32x8x128.Slices ![j, 0, 0] S1x8x128 :=
  ⟨rfl, fun a => by fin_cases a <;> simp [S32x8x128, S1x8x128] <;> omega⟩

/-- Group `j` of eight rows plus a carried row, at an index. -/
theorem group_at (S : S32x8x128.Idx → EReal) (j : ℕ) (hj : j < 32) (p : S1x128.Idx → EReal) (s : Fin 8) (l : Fin 128) :
    addf (F := Ideal) (φ := .f32)
        (shapeCast S8x128 (extractStridedSlice S1x8x128 ![j, 0, 0] S (slices_group j hj)) shapeCasts_S1x8x128_S8x128)
        (broadcastTo S8x128 p broadcasts_S1x128_S8x128) (ix2 s l)
      = S (ix3 ⟨j, hj⟩ s l) + p (ix2 0 l) := by
  pointwise

/-- The first group of a run. -/
theorem Runs.first {S : S32x8x128.Idx → EReal} {xs : List ((s : Shape) × (s.Idx → EReal))} (p : S1x128.Idx → EReal)
    {x : S8x128.Idx → EReal}
    (hx : x = addf (F := Ideal) (φ := .f32)
        (shapeCast S8x128 (extractStridedSlice S1x8x128 ![0, 0, 0] S (slices_group 0 (by decide))) shapeCasts_S1x8x128_S8x128)
        (broadcastTo S8x128 p broadcasts_S1x128_S8x128))
    (h : Runs S (fun l => x (ix2 7 l)) 1 xs) : Runs S (fun l => p (ix2 0 l)) 0 (⟨S8x128, x⟩ :: xs) :=
  .cons _ _ (by decide) x xs (fun s l => by rw [hx]; exact group_at S 0 (by decide) p s l) h

/-- One more group of a run. -/
theorem Runs.next {S : S32x8x128.Idx → EReal} {xs : List ((s : Shape) × (s.Idx → EReal))} {prev x : S8x128.Idx → EReal}
    {j : ℕ} (hj : j < 32)
    (hx : x = addf (F := Ideal) (φ := .f32)
        (shapeCast S8x128 (extractStridedSlice S1x8x128 ![j, 0, 0] S (slices_group j hj)) shapeCasts_S1x8x128_S8x128)
        (broadcastTo S8x128 (extractStridedSlice S1x128 ![7, 0] prev slices_S8x128_o7_0_S1x128) broadcasts_S1x128_S8x128))
    (h : Runs S (fun l => x (ix2 7 l)) (j + 1) xs) : Runs S (fun l => prev (ix2 7 l)) j (⟨S8x128, x⟩ :: xs) :=
  .cons _ _ hj x xs (fun s l => by rw [hx, group_at S j hj]; pointwise) h

/-- The first k groups of a run have 8 * k rows in all. -/
theorem Runs.extent {S : S32x8x128.Idx → EReal} : ∀ {c : Fin 128 → EReal} {j : ℕ} {xs : List ((s : Shape) × (s.Idx → EReal))},
    Runs S c j xs → ∀ k ≤ xs.length, (((xs.take k).map (·.1)).map fun s : Shape =>
      if h : s.rank = S256x128.rank then s.size ((0 : Fin S256x128.rank).cast h.symm) else 0).sum = 8 * k
  | _, _, _, .nil _ _, k, hk => by obtain rfl := Nat.le_zero.mp hk; rfl
  | _, _, _, .cons _ _ _ _ _ _ _, 0, _ => rfl
  | _, _, _, .cons _ _ hj x xs hx h, k + 1, hk => by
      have := Runs.extent h k (Nat.le_of_succ_le_succ hk)
      rw [List.take_succ_cons, List.map_cons, List.map_cons, List.sum_cons, this]
      show 8 + 8 * k = 8 * (k + 1)
      ring

/-- The groups put one after another: row `r` is the sum of all rows up to `r`, plus the row carried in. -/
theorem Runs.concat {S : S32x8x128.Idx → EReal} {L : ℕ → ℕ → EReal} {c : Fin 128 → EReal}
    {xs : List ((s : Shape) × (s.Idx → EReal))} (hr : Runs S c 0 xs) (h : Shape.Concatenates (xs.map (·.1)) S256x128 0)
    (hlen : xs.length = 32) (l : Fin 128)
    (hS : ∀ (b : Fin 32) (s : Fin 8), S (ix3 b s l) = ∑ i ∈ Finset.range (s + 1), L (8 * b + i) l) (r : Fin 256) :
    concatenate S256x128 0 xs h (ix2 r l) = c l + ∑ i ∈ Finset.range (r + 1), L i l := by
  obtain ⟨x, hx, hv⟩ := hr.at hS (r / 8) (by omega)
  rw [concatenate_apply_piece 0 xs h (ix2 r l) (r / 8) (by omega) S8x128 x hx rfl (8 * (r / 8))
    (hr.extent _ (by omega)) (ix2 ⟨r % 8, by omega⟩ l) (by intro b hb; fin_cases b; exact absurd rfl hb; rfl)
    (by show 8 * (↑r / 8) + (↑r % 8) = (r : ℕ); omega), hv]
  congr 2
  · congr 1; show 8 * (↑r / 8) + ↑r % 8 + 1 = (r : ℕ) + 1; omega
  · funext i; simp

/-- The last row of the concatenation is the last row of the last group. -/
theorem concat_last {xs : List ((s : Shape) × (s.Idx → EReal))} {S : S32x8x128.Idx → EReal} {c : Fin 128 → EReal}
    (hr : Runs S c 0 xs) (h : Shape.Concatenates (xs.map (·.1)) S256x128 0)
    (hlen : xs.length = 32) (x : S8x128.Idx → EReal) (hx : xs[31]'(by omega) = ⟨S8x128, x⟩) (l : Fin 128) :
    concatenate S256x128 0 xs h (ix2 255 l) = x (ix2 7 l) :=
  concatenate_apply_piece 0 xs h (ix2 255 l) 31 (by omega) S8x128 x hx rfl 248
    (hr.extent _ (by omega)) (ix2 7 l) (by intro b hb; fin_cases b; exact absurd rfl hb; rfl) rfl

/-- An array of groups, its exponential `E` and its last row `last`, from what is known of the groups. -/
theorem Runs.summary {S : S32x8x128.Idx → EReal} {c : Fin 128 → EReal} (E : S256x128.Idx → EReal) (last : S1x128.Idx → EReal)
    {xs : List ((s : Shape) × (s.Idx → EReal))} (h : Shape.Concatenates (xs.map (·.1)) S256x128 0) (hlen : xs.length = 32)
    (x : S8x128.Idx → EReal) (hx : xs[31]'(by omega) = ⟨S8x128, x⟩)
    (he : E = exp (F := Ideal) (φ := .f32) (concatenate S256x128 0 xs h)) (hr : Runs S c 0 xs)
    (hc : ∀ l : Fin 128, last (ix2 0 l) = x (ix2 7 l)) :
    ∃ D : S256x128.Idx → EReal, E = exp (F := Ideal) (φ := .f32) D
      ∧ (∀ (L : ℕ → ℕ → EReal) (l : Fin 128) (_ : ∀ (b : Fin 32) (s : Fin 8),
          S (ix3 b s l) = ∑ i ∈ Finset.range (s + 1), L (8 * b + i) l) (r : Fin 256),
          D (ix2 r l) = c l + ∑ i ∈ Finset.range (r + 1), L i l)
      ∧ ∀ l : Fin 128, last (ix2 0 l) = D (ix2 255 l) :=
  ⟨concatenate S256x128 0 xs h, he, fun L l hS r => hr.concat h hlen l hS r,
    fun l => by rw [hc, concat_last hr h hlen x hx]⟩

end Cert.KernelIdeal.Gen
-- ==== Proof.IdealDecay.lean ====
/- The decay factors of one chunk of the kernel, over the extended reals. -/
module

public import proofs.«01_k».proof.Proof.IdealScan
public import proofs.«01_k».proof.Proof.IdealRunCorrect

@[expose] public section

set_option maxRecDepth 16384

noncomputable section

namespace Cert.KernelIdeal.Gen

open Idealize.ShloMosaic Idealize.ShloMosaic.TcCoe

section
variable (c : Dev nD) (arg4 : Memref sig .tc .vmem S1x256x120 .f32) (arg5 : Memref sig .tc .vmem S1x120 .f32)
  (arg17 : Memref sig .tc .vmem S1x128 .f32) (arg19 : Memref sig .tc .vmem S256x128 .f32)
  (f4 : Bf (F := Ideal) c arg4) (f5 : Bf (F := Ideal) c arg5) (f17 : Bf (F := Ideal) c arg17)

/-- The increments of the scan are the steps of the formula. -/
theorem incr_at (r : Fin 256) (l : Fin 128) (hl : (l : ℕ) < 120) :
    correctRun.sl.v50 c arg4 arg5 arg19 f4 f5 (ix2 r l)
      = arg4.view.read (Elt Ideal) f4 (ix3 0 r ⟨l, hl⟩) * -(Ideal.exp (arg5.view.read (Elt Ideal) f5 (ix2 0 ⟨l, hl⟩))) := by
  unfold correctRun.sl.v50
  rw [View.readCov_eq_canon']
  simp only [correctRun.sl.H19_2, View.readAt_eq_ld]
  have e : ((Rect.unit (s := S256x128) ![0, 0] S256x128.size inb_S256x128_S256x128_0_0).toLoadRect.idx (ix2 r l))
      = (Rect.unit (s := S256x128) ![0, 0] S256x120.size inb_S256x128_S256x120_0_0).emb (ix2 r ⟨l, hl⟩) := by
    funext a; apply Fin.ext; fin_cases a <;> rfl
  erw [e, View.canon_cons_emb]
  unfold_payloads
  pointwise
  rw [zero_sub]

/-- The decay before the mask is the exponential of some array; where the groups of eight rows hold sums of prefixes, that array holds
    the carry plus the sum up to the row, and the new carry is its last row. -/
theorem logDecay_exists : ∃ D : S256x128.Idx → EReal,
    correctRun.sl.r_31 c arg4 arg5 arg17 arg19 f4 f5 f17 = exp (F := Ideal) (φ := .f32) D
    ∧ (∀ (L : ℕ → ℕ → EReal) (l : Fin 128) (_ : ∀ (b : Fin 32) (s : Fin 8),
        correctRun.sl.r_3 c arg4 arg5 arg19 f4 f5 (ix3 b s l) = ∑ i ∈ Finset.range (s + 1), L (8 * b + i) l) (r : Fin 256),
        D (ix2 r l) = correctRun.sl.r c arg17 f17 (ix2 0 l) + ∑ i ∈ Finset.range (r + 1), L i l)
    ∧ ∀ l : Fin 128, (k0_pay87 (correctRun.sl.r_3 c arg4 arg5 arg19 f4 f5)
        (correctRun.sl.r_29 c arg4 arg5 arg17 arg19 f4 f5 f17) (correctRun.sl.r_30 c arg4 arg5 arg19 f4 f5)) (ix2 0 l)
          = D (ix2 255 l) := by
  refine Runs.summary (c := fun l => correctRun.sl.r c arg17 f17 (ix2 0 l)) _ _ ?h ?hlen ?x ?hx rfl ?hr ?hc
  case h => exact concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0
  case hlen => rfl
  case hx => rfl
  case hr =>
    refine Runs.first _ rfl ?_
    repeat refine Runs.next (by decide) rfl ?_
    exact .nil _ _
  case hc =>
    intro l
    unfold k0_pay87
    pointwise

/-- The scan inside a group of eight rows is the sum of the group's steps up to the row. -/
theorem scan_at (L : ℕ → ℕ → EReal) (l : Fin 128) (hl : (l : ℕ) < 120)
    (hL : ∀ r : Fin 256, arg4.view.read (Elt Ideal) f4 (ix3 0 r ⟨l, hl⟩)
      * -(Ideal.exp (arg5.view.read (Elt Ideal) f5 (ix2 0 ⟨l, hl⟩))) = L r l) (b : Fin 32) (s : Fin 8) :
    correctRun.sl.r_3 c arg4 arg5 arg19 f4 f5 (ix3 b s l) = ∑ i ∈ Finset.range (s + 1), L (8 * b + i) l := by
  unfold correctRun.sl.r_3 correctRun.sl.r_1 correctRun.sl.r_2
  exact scan8_at _ L l (fun r => (incr_at c arg4 arg5 arg19 f4 f5 r l hl).trans (hL r)) b s

/-- The carry that the correction reads is what the scratch holds. -/
theorem carried_at (l : Fin 128) :
    correctRun.sl.r c arg17 f17 (ix2 0 l) = arg17.view.read (Elt Ideal) f17 (ix2 0 l) := by
  unfold correctRun.sl.r
  rw [View.readAt_eq_ld]
  pointwise

/-- A choice by a one-bit word made from a truth value. -/
theorem ite_ofBool (b : Bool) (x y : EReal) : (if BitVec.ofBool b = 1#1 then x else y) = if b = true then x else y := by
  cases b <;> simp

/-- The decay factor of a token: the exponential of the carried sum plus the chunk's sum up to the token, and zero for a
    token at or after the document's end. -/
theorem decay_at (v4 v6 : BitVec 32) (L : ℕ → ℕ → EReal) (l : Fin 128) (hl : (l : ℕ) < 120)
    (hL : ∀ r : Fin 256, arg4.view.read (Elt Ideal) f4 (ix3 0 r ⟨l, hl⟩)
      * -(Ideal.exp (arg5.view.read (Elt Ideal) f5 (ix2 0 ⟨l, hl⟩))) = L r l) (r : Fin 256) :
    correctRun.sl.r_32 c arg4 arg5 arg17 arg19 v4 v6 f4 f5 f17 (ix2 r l)
      = if (BitVec.ofNat 32 r + v4 * 256#32).slt v6 then
          Ideal.exp (arg17.view.read (Elt Ideal) f17 (ix2 0 l) + ∑ i ∈ Finset.range (r + 1), L i l) else 0 := by
  obtain ⟨D, hD, hv, -⟩ := logDecay_exists c arg4 arg5 arg17 arg19 f4 f5 f17
  unfold correctRun.sl.r_32
  rw [hD]
  unfold correctRun.sl.cst_33
  unfold_payloads
  pointwise
  rw [hv L l (scan_at c arg4 arg5 arg19 f4 f5 L l hl hL), carried_at]
  simp [Scalar.select, IntOp.cmpi, Scalar.muli]
  simp only [IntOp.addi, IntOp.muli]
  exact ite_ofBool _ _ _

/-- The row carried to the next chunk. -/
theorem carry_at (L : ℕ → ℕ → EReal) (l : Fin 128) (hl : (l : ℕ) < 120)
    (hL : ∀ r : Fin 256, arg4.view.read (Elt Ideal) f4 (ix3 0 r ⟨l, hl⟩)
      * -(Ideal.exp (arg5.view.read (Elt Ideal) f5 (ix2 0 ⟨l, hl⟩))) = L r l) :
    arg17.view.read (Elt Ideal) (arg17.view.writes (Elt Ideal) arg17.view.junk
        (correctRun.sl.H17_1 c arg4 arg5 arg17 arg19 f4 f5 f17)) (ix2 0 l)
      = arg17.view.read (Elt Ideal) f17 (ix2 0 l) + ∑ i ∈ Finset.range 256, L i l := by
  obtain ⟨D, -, hv, hc⟩ := logDecay_exists c arg4 arg5 arg17 arg19 f4 f5 f17
  rw [View.read_writes_junk_eq_canon]
  unfold correctRun.sl.H17_1
  have e : (ix2 0 l : S1x128.Idx) = (Rect.unit (s := S1x128) ![0, 0] S1x128.size inb_S1x128_S1x128_0_0).emb (ix2 0 l) := by
    funext a; apply Fin.ext; fin_cases a <;> simp [Rect.emb_apply]
  rw [e, View.canon_cons_emb, ← e]
  rw [hc, hv L l (scan_at c arg4 arg5 arg19 f4 f5 L l hl hL), carried_at]
  rfl

end
end Cert.KernelIdeal.Gen
-- ==== Proof.IdealStep.lean ====
/- One grid step over the extended reals: what the scratch buffers hold from one chunk of a batch to the next, and what
   the step puts in the first result's block. -/
module

public import proofs.«01_k».proof.Proof.IdealPoint
public import proofs.«01_k».proof.Proof.IdealStart
public import proofs.«01_k».proof.Proof.IdealCorrect
public import proofs.«01_k».proof.Proof.IdealDecay
public import proofs.«01_k».proof.Proof.IdealRunCopy

@[expose] public section

set_option maxRecDepth 16384

noncomputable section

namespace Cert.KernelIdeal.Gen

open Idealize.ShloMosaic Idealize.ShloMosaic.TcCoe

variable (m : (ℓ : Loc nD τ sig) → Buf (Elt Ideal) ℓ) (c : Dev nD)
  (arg14 : Memref sig .tc .vmem S11520x128 .bf16) (arg15 : Memref sig .tc .vmem S7x256x256 .bf16)
  (arg16 : Memref sig .tc .vmem S3x32x128 .f32) (arg17 : Memref sig .tc .vmem S1x128 .f32)

/-- What the scratch buffers hold at a chunk of a batch: the batch's codes, the codes at the groups' edges, the scales by
    lane, and, while the chunk is live, the decay logarithms of the chunks before it summed by head. -/
structure Held (b ch : ℕ) (f14 : Bf (F := Ideal) c arg14) (f15 : Bf (F := Ideal) c arg15) (f16 : Bf (F := Ideal) c arg16)
    (f17 : Bf (F := Ideal) c arg17) : Prop where
  codes : ∀ (col : Fin 11520) (n : Fin 128), arg14.view.read (Elt Ideal) f14 (ix2 col n) = aCD m c b col n
  edge : arg15.view.read (Elt Ideal) f15 = edgeCodes (aCD m c b)
  scales : ∀ (k : Fin 3) (q : Fin 32) (lane : Fin 128), (q : ℕ) < 30 →
    arg16.view.read (Elt Ideal) f16 (ix3 k q lane) = aSC m c b (384 * q + 128 * k + lane)
  carry : ((256 * ch : ℕ) : ℤ) < aLV m c b → ∀ l : Fin 128, (l : ℕ) < 120 →
    arg17.view.read (Elt Ideal) f17 (ix2 0 l) = ∑ j ∈ Finset.range (256 * ch), Carry.step (aDT m c) (aAL m c) b j l

variable {m c arg14 arg15 arg16 arg17} {b ch : ℕ} {f14 : Bf (F := Ideal) c arg14} {f15 : Bf (F := Ideal) c arg15}
  {f16 : Bf (F := Ideal) c arg16} {f17 : Bf (F := Ideal) c arg17}

/-- The first chunk of a batch lays out the batch. -/
theorem held_start {arg6 : Memref sig .tc .vmem S1x11520x128 .fp8e4m3} {arg7 : Memref sig .tc .vmem S1x120x96 .f32}
    {f6 : Bf (F := Ideal) c arg6} {f7 : Bf (F := Ideal) c arg7}
    (hCD : ∀ (col : Fin 11520) (n : Fin 128), arg6.view.read (Elt Ideal) f6 (ix3 0 col n) = aCD m c b col n)
    (hSC : ∀ (h : Fin 120) (p : Fin 96), arg7.view.read (Elt Ideal) f7 (ix3 0 h p) = aSC m c b (96 * h + p)) :
    Held m c arg14 arg15 arg16 arg17 b 0 (arg14.view.writes (Elt Ideal) arg14.view.junk (startRun.sl.H14_1 c arg6 f6))
      (arg15.view.writes (Elt Ideal) arg15.view.junk (startRun.sl.H15_14 c arg6 f6))
      (arg16.view.writes (Elt Ideal) f16 (startRun.sl.H16_3 c arg7 f7))
      (arg17.view.writes (Elt Ideal) arg17.view.junk (startRun.sl.H17_1 (F := Ideal))) where
  codes := codes_at hCD
  edge := edge_at hCD
  scales k q lane hq := scales_at hSC k q lane hq
  carry _ l _ := by rw [carry_start, Nat.mul_zero, Finset.range_zero, Finset.sum_empty]

variable {arg3 : Memref sig .tc .vmem S1x256x1024 .bf16} {arg4 : Memref sig .tc .vmem S1x256x120 .f32} {arg5 : Memref sig .tc .vmem S1x120 .f32}
  {f3 : Bf (F := Ideal) c arg3} {f4 : Bf (F := Ideal) c arg4} {f5 : Bf (F := Ideal) c arg5}

/-- The increments read from the blocks are those of the formula. -/
theorem step_of (hDT : ∀ (r : Fin 256) (l : Fin 120), arg4.view.read (Elt Ideal) f4 (ix3 0 r l) = aDT m c b (256 * ch + r) l)
    (hAL : ∀ l : Fin 120, arg5.view.read (Elt Ideal) f5 (ix2 0 l) = aAL m c l) (l : Fin 128) (hl : (l : ℕ) < 120) (r : Fin 256) :
    arg4.view.read (Elt Ideal) f4 (ix3 0 r ⟨l, hl⟩) * -(Ideal.exp (arg5.view.read (Elt Ideal) f5 (ix2 0 ⟨l, hl⟩)))
      = Carry.step (aDT m c) (aAL m c) b (256 * ch + r) l := by
  rw [hDT, hAL]; rfl

/-- A sum over a prefix, extended by a chunk. -/
theorem sum_chunk (L : ℕ → EReal) (n k : ℕ) : ∑ j ∈ Finset.range n, L j + ∑ j ∈ Finset.range k, L (n + j) = ∑ j ∈ Finset.range (n + k), L j := by
  rw [Finset.sum_range_add]

/-- A live chunk carries its sum on. -/
theorem held_live {arg19 : Memref sig .tc .vmem S256x128 .f32} (hs : Held m c arg14 arg15 arg16 arg17 b ch f14 f15 f16 f17)
    (hl : ((256 * ch : ℕ) : ℤ) < aLV m c b)
    (hDT : ∀ (r : Fin 256) (l : Fin 120), arg4.view.read (Elt Ideal) f4 (ix3 0 r l) = aDT m c b (256 * ch + r) l)
    (hAL : ∀ l : Fin 120, arg5.view.read (Elt Ideal) f5 (ix2 0 l) = aAL m c l) :
    Held m c arg14 arg15 arg16 arg17 b (ch + 1) f14 f15 f16
      (arg17.view.writes (Elt Ideal) arg17.view.junk (correctRun.sl.H17_1 c arg4 arg5 arg17 arg19 f4 f5 f17)) where
  codes := hs.codes
  edge := hs.edge
  scales := hs.scales
  carry _ l h := by
    rw [carry_at c arg4 arg5 arg17 arg19 f4 f5 f17 (fun r l => Carry.step (aDT m c) (aAL m c) b (256 * ch + r) l) l h (step_of hDT hAL l h),
      hs.carry hl l h, sum_chunk (fun j => Carry.step (aDT m c) (aAL m c) b j l), Nat.mul_add, Nat.mul_one]

/-- A dead chunk is followed by dead chunks. -/
theorem held_dead (hs : Held m c arg14 arg15 arg16 arg17 b ch f14 f15 f16 f17) (hl : ¬ ((256 * ch : ℕ) : ℤ) < aLV m c b) :
    Held m c arg14 arg15 arg16 arg17 b (ch + 1) f14 f15 f16 f17 :=
  ⟨hs.codes, hs.edge, hs.scales, fun h => absurd h (by push_cast at hl ⊢; omega)⟩

/-- The corrected entry of the launch memory's arguments. -/
abbrev ans (m : (ℓ : Loc nD τ sig) → Buf (Elt Ideal) ℓ) (c : Dev nD) : ℕ → ℕ → ℕ → EReal :=
  Carry.answer (aY m c) (aC m c) (aCD m c) (aSC m c) (aDT m c) (aAL m c) (aLV m c)

/-- A live chunk is corrected. -/
theorem out_live {arg2 arg11 : Memref sig .tc .vmem S1x256x11520 .bf16} {f2 : Bf (F := Ideal) c arg2} {arg19 : Memref sig .tc .vmem S256x128 .f32}
    (hch : ch < 32) (v6 : BitVec 32) (hv6 : v6.toInt = aLV m c b)
    (hs : Held m c arg14 arg15 arg16 arg17 b ch f14 f15 f16 f17) (hl : ((256 * ch : ℕ) : ℤ) < aLV m c b)
    (hY : ∀ (r : Fin 256) (col : Fin 11520), arg2.view.read (Elt Ideal) f2 (ix3 0 r col) = aY m c b (256 * ch + r) col)
    (hC : ∀ (r : Fin 256) (k : Fin 1024), arg3.view.read (Elt Ideal) f3 (ix3 0 r k) = aC m c b (256 * ch + r) k)
    (hDT : ∀ (r : Fin 256) (l : Fin 120), arg4.view.read (Elt Ideal) f4 (ix3 0 r l) = aDT m c b (256 * ch + r) l)
    (hAL : ∀ l : Fin 120, arg5.view.read (Elt Ideal) f5 (ix2 0 l) = aAL m c l) (r : Fin 256) (col : Fin 11520) :
    arg11.view.read (Elt Ideal) (arg11.view.writes (Elt Ideal) arg11.view.junk
        (correctRun.sl.H11_90 c arg2 arg3 arg4 arg5 arg14 arg15 arg16 arg17 arg19 (BitVec.ofNat 32 ch) v6 f2 f3 f4 f5 f14 f15 f16 f17)) (ix3 0 r col)
      = ans m c b (256 * ch + r) col := by
  have src : Sources (arg3.view.read (Elt Ideal) f3) (arg14.view.read (Elt Ideal) f14) (arg15.view.read (Elt Ideal) f15)
      (arg16.view.read (Elt Ideal) f16) (correctRun.sl.r_32 c arg4 arg5 arg17 arg19 (BitVec.ofNat 32 ch) v6 f4 f5 f17)
      (fun tok k => aC m c b (256 * ch + tok) k) (aCD m c b) (aSC m c b)
      (fun tok h => Carry.decay (aDT m c) (aAL m c) (aLV m c) b (256 * ch + tok) h) := by
    refine ⟨fun tok n => hC tok n, fun col n => hs.codes col n, fun s r n => ?_, fun k q lane hq => hs.scales k q lane hq, fun tok h hh => ?_⟩
    · rw [hs.edge]; rfl
    · rw [decay_at c arg4 arg5 arg17 arg19 f4 f5 f17 (BitVec.ofNat 32 ch) v6 (fun r l => Carry.step (aDT m c) (aAL m c) b (256 * ch + r) l) h hh
        (step_of hDT hAL h hh), hs.carry hl h hh, sum_chunk (fun j => Carry.step (aDT m c) (aAL m c) b j h)]
      unfold Carry.decay
      have e : (BitVec.ofNat 32 (tok : ℕ) + BitVec.ofNat 32 ch * 256#32) = BitVec.ofNat 32 (256 * ch + tok) := by
        apply BitVec.eq_of_toNat_eq; simp; omega
      have e' : (BitVec.ofNat 32 (256 * ch + tok)).slt v6 = true ↔ ((256 * ch + tok : ℕ) : ℤ) < aLV m c b := by
        rw [← hv6, ← slt_ofNat (256 * ch + tok) (by omega) v6]
        show _ ↔ BitVec.ofBool _ = 1#1
        cases (BitVec.ofNat 32 (256 * ch + tok)).slt v6 <;> simp
      rw [e]
      exact if_congr e' rfl rfl
  rw [corrected_read c arg2 arg3 arg4 arg5 arg11 arg14 arg15 arg16 arg17 arg19 _ v6 f2 f3 f4 f5 f14 f15 f16 f17 src]
  unfold corrected ans Carry.answer
  rw [hY]; rfl

/-- A dead chunk is copied: nothing is left of the carried state there. -/
theorem out_dead (hl : ¬ ((256 * ch : ℕ) : ℤ) < aLV m c b) (r : Fin 256) (col : Fin 11520) :
    aY m c b (256 * ch + r) col = ans m c b (256 * ch + r) col := by
  unfold ans Carry.answer Carry.decay
  rw [if_neg (by push_cast at hl ⊢; omega), mul_zero, add_zero]

end Cert.KernelIdeal.Gen

end
-- ==== Proof.IdealWitness.lean ====
/- What the runs of the blocks put in each buffer, spelt as the writes they make. -/
module

public import proofs.«01_k».proof.Proof.IdealBody
public import Idealize.ShloMosaic.Lib.Pointwise

@[expose] public section

set_option maxRecDepth 16384

noncomputable section

namespace Cert.KernelIdeal.Gen

open Idealize.ShloMosaic Idealize.ShloMosaic.TcCoe

variable {m : (ℓ : Loc nD τ sig) → Buf (Elt Ideal) ℓ} (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)
  (f2 : Bf (F := Ideal) c arg2)

/-- What the start leaves in the buffer of the scales, as a list of stores. -/
theorem start_scales (f6 : Bf (F := Ideal) c arg6) (f7 : Bf (F := Ideal) c arg7) (f16 : Bf (F := Ideal) c arg16) :
    (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f6 f7 f16).1.1 = arg16.view.writes (Elt Ideal) f16 (startRun.sl.H16_3 c arg7 f7) := by
  delta startRun
  dsimp only

/-- What the start leaves in the buffer of the carry, as a list of stores. -/
theorem start_carry (f6 : Bf (F := Ideal) c arg6) (f7 : Bf (F := Ideal) c arg7) (f16 : Bf (F := Ideal) c arg16) :
    (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f6 f7 f16).1.2.1 = arg17.view.writes (Elt Ideal) arg17.view.junk (startRun.sl.H17_1 (F := Ideal)) := by
  delta startRun
  dsimp only

/-- What the start leaves in the buffer of the codes, as a list of stores. -/
theorem start_codes (f6 : Bf (F := Ideal) c arg6) (f7 : Bf (F := Ideal) c arg7) (f16 : Bf (F := Ideal) c arg16) :
    (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f6 f7 f16).1.2.2.1 = arg14.view.writes (Elt Ideal) arg14.view.junk (startRun.sl.H14_1 c arg6 f6) := by
  delta startRun
  dsimp only

/-- What the start leaves in the buffer of the tiles across two groups, as a list of stores. -/
theorem start_edge (f6 : Bf (F := Ideal) c arg6) (f7 : Bf (F := Ideal) c arg7) (f16 : Bf (F := Ideal) c arg16) :
    (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f6 f7 f16).1.2.2.2 = arg15.view.writes (Elt Ideal) arg15.view.junk (startRun.sl.H15_14 c arg6 f6) := by
  delta startRun
  dsimp only

/-- What the correction leaves in the buffer of the carry, as a list of stores. -/
theorem correct_carry (v4 v6 : BitVec 32) (f3 : Bf (F := Ideal) c arg3) (f4 : Bf (F := Ideal) c arg4) (f5 : Bf (F := Ideal) c arg5)
    (f14 : Bf (F := Ideal) c arg14) (f15 : Bf (F := Ideal) c arg15) (f16 : Bf (F := Ideal) c arg16) (f17 : Bf (F := Ideal) c arg17) :
    (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 f2 f3 f4 f5 f14 f15 f16 f17).1.1
      = arg17.view.writes (Elt Ideal) arg17.view.junk (correctRun.sl.H17_1 c arg4 arg5 arg17 arg19 f4 f5 f17) := by
  delta correctRun
  dsimp only

/-- What the correction leaves in the block of the first result, as a list of stores. -/
theorem correct_out (v4 v6 : BitVec 32) (f3 : Bf (F := Ideal) c arg3) (f4 : Bf (F := Ideal) c arg4) (f5 : Bf (F := Ideal) c arg5)
    (f14 : Bf (F := Ideal) c arg14) (f15 : Bf (F := Ideal) c arg15) (f16 : Bf (F := Ideal) c arg16) (f17 : Bf (F := Ideal) c arg17) :
    (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 f2 f3 f4 f5 f14 f15 f16 f17).1.2
      = arg11.view.writes (Elt Ideal) arg11.view.junk
        (correctRun.sl.H11_90 c arg2 arg3 arg4 arg5 arg14 arg15 arg16 arg17 arg19 v4 v6 f2 f3 f4 f5 f14 f15 f16 f17) := by
  delta correctRun
  dsimp only

/-- What the copy leaves in the block of the first result, as a list of stores. -/
theorem copy_out : (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2).1 = arg11.view.writes (Elt Ideal) arg11.view.junk (copyRun.sl.H11_1 c arg2 f2) := by
  delta copyRun
  dsimp only

end Cert.KernelIdeal.Gen

end
-- ==== Proof.IdealHeld.lean ====
/- The body at a grid point over the extended reals: the scratch buffers go from chunk to chunk as the formula says, and the
   first result's block is the chunk's part of the formula. -/
module

public import proofs.«01_k».proof.Proof.IdealStep
public import proofs.«01_k».proof.Proof.IdealWitness
public import proofs.«01_k».proof.Proof.IdealBody

@[expose] public section

set_option maxRecDepth 16384

noncomputable section

namespace Cert.KernelIdeal.Gen

open Idealize.ShloMosaic Idealize.ShloMosaic.TcCoe

variable {m : (ℓ : Loc nD τ sig) → Buf (Elt Ideal) ℓ} (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole)
  (f2 : Bf (F := Ideal) c arg2)

/-- The copy stores the block of y unchanged. -/
theorem copy_read : arg11.view.read (Elt Ideal) (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2).1 = arg2.view.read (Elt Ideal) f2 := by
  rw [copy_out, View.read_writes_junk_eq_canon]
  unfold copyRun.sl.H11_1
  funext y
  refine (congrArg _ (show y = (Rect.unit (s := S1x256x11520) ![0, 0, 0] S1x256x11520.size inb_S1x256x11520_S1x256x11520_0_0_0).emb y from ?_)).trans ?_
  · funext a; apply Fin.ext; fin_cases a <;> simp [Rect.emb_apply]
  · rw [View.canon_cons_emb, View.readAt_apply]
    refine congrArg _ ?_
    funext a; apply Fin.ext; fin_cases a <;> (refine (Nat.zero_add _).trans (Nat.one_mul _))

/-- After a chunk the scratch holds what the next chunk needs, and the block of the first result holds the formula. -/
theorem body_held (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f11 : Bf (F := Ideal) c arg11) (f14 : Bf (F := Ideal) c arg14) (f15 : Bf (F := Ideal) c arg15) (f16 : Bf (F := Ideal) c arg16) (f17 : Bf (F := Ideal) c arg17)
    (g11 : Bf (F := Ideal) c arg11) (g14 : Bf (F := Ideal) c arg14) (g15 : Bf (F := Ideal) c arg15) (g16 : Bf (F := Ideal) c arg16) (g17 : Bf (F := Ideal) c arg17) (g17a : Bf (F := Ideal) c arg17) (g11a : Bf (F := Ideal) c arg11)
    (e16 : g16 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.1 else f16)
    (e17a : g17a = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.1 else f17)
    (e14 : g14 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.1 else f14)
    (e15 : g15 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.2 else f15)
    (e17 : g17 = if h : k0_cond2 i (smemWord c arg1 f1 i) = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) (smemWord c arg1 f1 i) f2 f3 f4 f5 g14 g15 g16 g17a).1.1 else g17a)
    (e11a : g11a = if h : k0_cond2 i (smemWord c arg1 f1 i) = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) (smemWord c arg1 f1 i) f2 f3 f4 f5 g14 g15 g16 g17a).1.2 else f11)
    (e11 : g11 = if h : k0_cond3 i (smemWord c arg1 f1 i) = 1#1 then (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f2).1 else g11a)
    (hi : (i 0).val < 96) (hw : smemWord c arg1 f1 i = docEnd m c ⟨(i 0).val / 32, by omega⟩)
    (hs : (i 0).val % 32 ≠ 0 → Held m c arg14 arg15 arg16 arg17 ((i 0).val / 32) ((i 0).val % 32) f14 f15 f16 f17)
    (hY : ∀ (r : Fin 256) (col : Fin 11520), arg2.view.read (Elt Ideal) f2 (ix3 0 r col) = aY m c ((i 0).val / 32) (256 * ((i 0).val % 32) + r) col)
    (hC : liveAt m c (i 0).val → ∀ (r : Fin 256) (k : Fin 1024), arg3.view.read (Elt Ideal) f3 (ix3 0 r k) = aC m c ((i 0).val / 32) (256 * ((i 0).val % 32) + r) k)
    (hDT : liveAt m c (i 0).val → ∀ (r : Fin 256) (l : Fin 120), arg4.view.read (Elt Ideal) f4 (ix3 0 r l) = aDT m c ((i 0).val / 32) (256 * ((i 0).val % 32) + r) l)
    (hAL : ∀ l : Fin 120, arg5.view.read (Elt Ideal) f5 (ix2 0 l) = aAL m c l)
    (hCD : ∀ (col : Fin 11520) (n : Fin 128), arg6.view.read (Elt Ideal) f6 (ix3 0 col n) = aCD m c ((i 0).val / 32) col n)
    (hSC : ∀ (h : Fin 120) (p : Fin 96), arg7.view.read (Elt Ideal) f7 (ix3 0 h p) = aSC m c ((i 0).val / 32) (96 * h + p)) :
    Held m c arg14 arg15 arg16 arg17 ((i 0).val / 32) ((i 0).val % 32 + 1) g14 g15 g16 g17
      ∧ ∀ (r : Fin 256) (col : Fin 11520), arg11.view.read (Elt Ideal) g11 (ix3 0 r col) = ans m c ((i 0).val / 32) (256 * ((i 0).val % 32) + r) col := by
  have hmid : Held m c arg14 arg15 arg16 arg17 ((i 0).val / 32) ((i 0).val % 32) g14 g15 g16 g17a := by
    by_cases h0 : (i 0).val % 32 = 0
    · have hst := (start_iff i hi).mpr h0
      rw [dif_pos hst] at e16 e17a e14 e15
      rw [start_scales] at e16; rw [start_carry] at e17a; rw [start_codes] at e14; rw [start_edge] at e15
      rw [h0, e16, e17a, e14, e15]
      exact held_start hCD hSC
    · have hst := fun h => h0 ((start_iff i hi).mp h)
      rw [dif_neg hst] at e16 e17a e14 e15
      rw [e16, e17a, e14, e15]
      exact hs h0
  have hLV : (smemWord c arg1 f1 i).toInt = aLV m c ((i 0).val / 32) := by rw [hw, aLV_eq]
  have hc2 := live_iff i hi (smemWord c arg1 f1 i)
  have hc3 := copy_iff i hi (smemWord c arg1 f1 i)
  rw [hLV] at hc2
  by_cases hl : liveAt m c (i 0).val
  · rw [dif_pos (hc2.mpr hl)] at e17 e11a
    rw [dif_neg (fun h => hc3.mp h (hc2.mpr hl))] at e11
    rw [correct_carry] at e17; rw [correct_out] at e11a
    refine ⟨?_, fun r col => ?_⟩
    · rw [e17]; exact held_live hmid hl (hDT hl) hAL
    · rw [e11, e11a, chunk_word i hi]
      exact out_live (Nat.mod_lt _ (by decide)) _ hLV hmid hl hY (hC hl) (hDT hl) hAL r col
  · have hn := fun h => hl (hc2.mp h)
    rw [dif_neg hn] at e17
    rw [dif_pos (hc3.mpr hn)] at e11
    refine ⟨?_, fun r col => ?_⟩
    · rw [e17]; exact held_dead hmid hl
    · rw [e11, copy_read, hY]; exact out_dead hl r col

end Cert.KernelIdeal.Gen

end
-- ==== Proof.IdealTracked.lean ====
/-
  The kernel's run over the extended reals, tracked: the scratch buffers hold what the formula needs from chunk to chunk, and
  each block of the first result is written with its part of the formula.
-/
module

public import proofs.«01_k».proof.Proof.IdealFrame
public import proofs.«01_k».proof.Proof.IdealHeld
public import proofs.«01_k».proof.Proof.IdealKit
public import Idealize.ShloMosaic.Lib.Affine
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-- A whole buffer held at some contents is owned with the value read from it. -/
theorem owns_mk (c : Dev nD) {sp : Space} {S : Shape} {e : EltTy} (M : Memref sig .tc sp S e) (hM : M.IsWhole) (f : Bf (F := Ideal) c M) :
    (pt c M f : sProp 𝕄) ⊢ owns (c : Thread nD τ) M fullShare (M.view.read (Elt Ideal) f) := by
  iintro H
  rw [owns_whole c M hM]
  iexists f
  isplitr; · ipureintro; rfl
  iexact H

set_option maxHeartbeats 1000000 in
/-- The body over owned windows, with a relation `R` between what its buffers end with. -/
theorem bodyTracked (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (f1 : Bf (F := Ideal) c arg1) (X2 : S1x256x11520.Idx → Elt Ideal .bf16) (X3 : S1x256x1024.Idx → Elt Ideal .bf16) (X4 : S1x256x120.Idx → Elt Ideal .f32) (X5 : S1x120.Idx → Elt Ideal .f32) (X6 : S1x11520x128.Idx → Elt Ideal .fp8e4m3) (X7 : S1x120x96.Idx → Elt Ideal .f32) (X8 : S1x24x96x128.Idx → Elt Ideal .fp8e4m3) (X9 : S1x24x96.Idx → Elt Ideal .f32) (X10 : S1x24x96x128.Idx → Elt Ideal .f32) (X11 : S1x256x11520.Idx → Elt Ideal .bf16) (X12 : S1x24x96x128.Idx → Elt Ideal .fp8e4m3) (X13 : S1x24x96.Idx → Elt Ideal .f32)
    (f14 : Bf (F := Ideal) c arg14) (f15 : Bf (F := Ideal) c arg15) (f16 : Bf (F := Ideal) c arg16) (f17 : Bf (F := Ideal) c arg17)
    (R : Bf (F := Ideal) c arg14 → Bf (F := Ideal) c arg15 → Bf (F := Ideal) c arg16 → Bf (F := Ideal) c arg17 → (S1x256x11520.Idx → Elt Ideal .bf16) → Prop)
    (hR : ∀ (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f11 : Bf (F := Ideal) c arg11)
        (g11 : Bf (F := Ideal) c arg11) (g14 : Bf (F := Ideal) c arg14) (g15 : Bf (F := Ideal) c arg15) (g16 : Bf (F := Ideal) c arg16) (g17 : Bf (F := Ideal) c arg17) (g17a : Bf (F := Ideal) c arg17) (g11a : Bf (F := Ideal) c arg11),
        arg2.view.read (Elt Ideal) f2 = X2 → arg3.view.read (Elt Ideal) f3 = X3 → arg4.view.read (Elt Ideal) f4 = X4 → arg5.view.read (Elt Ideal) f5 = X5 →
        arg6.view.read (Elt Ideal) f6 = X6 → arg7.view.read (Elt Ideal) f7 = X7 → arg11.view.read (Elt Ideal) f11 = X11 →
        (g16 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.1 else f16) →
        (g17a = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.1 else f17) →
        (g14 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.1 else f14) →
        (g15 = if h : startCond i = 1#1 then (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f6 f7 f16).1.2.2.2 else f15) →
        (g17 = if h : k0_cond2 i (smemWord c arg1 f1 i) = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) (smemWord c arg1 f1 i) f2 f3 f4 f5 g14 g15 g16 g17a).1.1 else g17a) →
        (g11a = if h : k0_cond2 i (smemWord c arg1 f1 i) = 1#1 then (correctRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (chunkWord i) (smemWord c arg1 f1 i) f2 f3 f4 f5 g14 g15 g16 g17a).1.2 else f11) →
        (g11 = if h : k0_cond3 i (smemWord c arg1 f1 i) = 1#1 then (copyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f2).1 else g11a) →
        R g14 g15 g16 g17 (arg11.view.read (Elt Ideal) g11))
    (E : Set ℕ) (Q : PUnit → sProp 𝕄) :
    iprop((arg1.view.loc (c : Thread nD τ) ↦{q} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ (pt c arg14 f14) ∗ (pt c arg15 f15) ∗ (pt c arg16 f16) ∗ (pt c arg17 f17) ∗ (∃ f, pt c arg18 f) ∗ (∃ f, pt c arg19 f)
        ∗ (iprop((arg1.view.loc (c : Thread nD τ) ↦{q} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg12 fullShare X) ∗ (∃ X, owns (c : Thread nD τ) arg13 fullShare X) ∗ (∃ g11 g14 g15 g16 g17, pt c arg11 g11 ∗ pt c arg14 g14 ∗ pt c arg15 g15 ∗ pt c arg16 g16 ∗ pt c arg17 g17 ∗ ⌜R g14 g15 g16 g17 (arg11.view.read (Elt Ideal) g11)⌝) ∗ (∃ f, pt c arg18 f) ∗ (∃ f, pt c arg19 f)) -∗ Q ⟨⟩))
  ⊢ wp Idealize.ShloMosaic.frame (wpE (defs₀ (F := Ideal)) Variants.none c none) E (cc0_carry_correction (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [owns_whole c arg2 harg2 X2, owns_whole c arg3 harg3 X3, owns_whole c arg4 harg4 X4, owns_whole c arg5 harg5 X5, owns_whole c arg6 harg6 X6, owns_whole c arg7 harg7 X7, owns_whole c arg8 harg8 X8, owns_whole c arg9 harg9 X9, owns_whole c arg10 harg10 X10, owns_whole c arg11 harg11 X11, owns_whole c arg12 harg12 X12, owns_whole c arg13 harg13 X13]
  iintro ⟨H1, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, H14, H15, H16, H17, ⟨%f18, H18⟩, H19, Hk⟩
  have hr := hR f2 f3 f4 f5 f6 f7 f11 _ _ _ _ _ _ _ e2 e3 e4 e5 e6 e7 e11 rfl rfl rfl rfl rfl rfl rfl
  iapply (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q f1 f2 f3 f4 f5 f6 f7 f8 f9 f10 f11 f12 f13 f14 f15 f16 f17 f18 _ _ _ _ _ _ _ _ _ _ rfl rfl rfl rfl rfl rfl rfl rfl rfl rfl E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  iapply Hk
  isplitl [H1]; · iexact H1
  isplitl [H2]; · (iexists f2; isplitr; (ipureintro; exact e2); iexact H2)
  isplitl [H3]; · (iexists f3; isplitr; (ipureintro; exact e3); iexact H3)
  isplitl [H4]; · (iexists f4; isplitr; (ipureintro; exact e4); iexact H4)
  isplitl [H5]; · (iexists f5; isplitr; (ipureintro; exact e5); iexact H5)
  isplitl [H6]; · (iexists f6; isplitr; (ipureintro; exact e6); iexact H6)
  isplitl [H7]; · (iexists f7; isplitr; (ipureintro; exact e7); iexact H7)
  isplitl [H8]; · (iexists f8; isplitr; (ipureintro; exact e8); iexact H8)
  isplitl [H9]; · (iexists f9; isplitr; (ipureintro; exact e9); iexact H9)
  isplitl [H10]; · (iexists f10; isplitr; (ipureintro; exact e10); iexact H10)
  isplitl [H12]; · iapply (owns_of_pt c arg12 harg12 _); iexact H12
  isplitl [H13]; · iapply (owns_of_pt c arg13 harg13 _); iexact H13
  isplitl [H11 H14 H15 H16 H17]
  · iexists _, _, _, _, _
    isplitl [H11]; · iexact H11
    isplitl [H14]; · iexact H14
    isplitl [H15]; · iexact H15
    isplitl [H16]; · iexact H16
    isplitl [H17]; · iexact H17
    ipureintro; exact hr
  isplitl [H18]; · iexists _; iexact H18
  iexact H19

end Cert.KernelIdeal.Gen

end
-- ==== Proof.IdealChunk.lean ====
/- A chunk of the kernel over owned windows, whose buffers end as the formula says.
-/
module

public import proofs.«01_k».proof.Proof.IdealTracked
public import proofs.«01_k».proof.Proof.IdealKit
public import Idealize.ShloMosaic.Lib.Affine
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-- After the last chunk neither of the two blocks that write the first result runs. -/
theorem idle (i : grid0.Coords) (hi : ¬ (i 0).val < 96) (w : BitVec 32) : ¬ k0_cond2 i w = 1#1 ∧ ¬ k0_cond3 i w = 1#1 := by
  have h0 : ∀ n : Fin 101, ¬ n.val < 96 → Scalar.cmpi .slt (BitVec.ofNat 32 n.val) 96#32 = 0#1 := by decide +kernel
  have h1 : ∀ x b : BitVec 1, x = 0#1 → ¬ Scalar.cmpi .ne (Scalar.extui (Scalar.andi x b) : BitVec 32) 0#32 = 1#1 := by decide +kernel
  exact ⟨h1 _ _ (h0 (i 0) hi), h1 _ _ (h0 (i 0) hi)⟩

set_option maxHeartbeats 1000000 in
/-- The body at a grid point over owned windows. -/
theorem bodyChunk (m : (ℓ : Loc nD τ sig) → Buf (Elt Ideal) ℓ) (c : Dev nD) (i : grid0.Coords) (arg1 : Memref sig .tc .smem S3 .i32) (harg1 : arg1.IsWhole) (arg2 : Memref sig .tc .vmem S1x256x11520 .bf16) (harg2 : arg2.IsWhole) (arg3 : Memref sig .tc .vmem S1x256x1024 .bf16) (harg3 : arg3.IsWhole) (arg4 : Memref sig .tc .vmem S1x256x120 .f32) (harg4 : arg4.IsWhole) (arg5 : Memref sig .tc .vmem S1x120 .f32) (harg5 : arg5.IsWhole) (arg6 : Memref sig .tc .vmem S1x11520x128 .fp8e4m3) (harg6 : arg6.IsWhole) (arg7 : Memref sig .tc .vmem S1x120x96 .f32) (harg7 : arg7.IsWhole) (arg8 : Memref sig .tc .vmem S1x24x96x128 .fp8e4m3) (harg8 : arg8.IsWhole) (arg9 : Memref sig .tc .vmem S1x24x96 .f32) (harg9 : arg9.IsWhole) (arg10 : Memref sig .tc .vmem S1x24x96x128 .f32) (harg10 : arg10.IsWhole) (arg11 : Memref sig .tc .vmem S1x256x11520 .bf16) (harg11 : arg11.IsWhole) (arg12 : Memref sig .tc .vmem S1x24x96x128 .fp8e4m3) (harg12 : arg12.IsWhole) (arg13 : Memref sig .tc .vmem S1x24x96 .f32) (harg13 : arg13.IsWhole) (arg14 : Memref sig .tc .vmem S11520x128 .bf16) (harg14 : arg14.IsWhole) (arg15 : Memref sig .tc .vmem S7x256x256 .bf16) (harg15 : arg15.IsWhole) (arg16 : Memref sig .tc .vmem S3x32x128 .f32) (harg16 : arg16.IsWhole) (arg17 : Memref sig .tc .vmem S1x128 .f32) (harg17 : arg17.IsWhole) (arg18 : Memref sig .tc .vmem S8x128 .f32) (harg18 : arg18.IsWhole) (arg19 : Memref sig .tc .vmem S256x128 .f32) (harg19 : arg19.IsWhole) (q : PosShare TreeShare) (f1 : Bf (F := Ideal) c arg1) (X2 : S1x256x11520.Idx → Elt Ideal .bf16) (X3 : S1x256x1024.Idx → Elt Ideal .bf16) (X4 : S1x256x120.Idx → Elt Ideal .f32) (X5 : S1x120.Idx → Elt Ideal .f32) (X6 : S1x11520x128.Idx → Elt Ideal .fp8e4m3) (X7 : S1x120x96.Idx → Elt Ideal .f32) (X8 : S1x24x96x128.Idx → Elt Ideal .fp8e4m3) (X9 : S1x24x96.Idx → Elt Ideal .f32) (X10 : S1x24x96x128.Idx → Elt Ideal .f32) (X11 : S1x256x11520.Idx → Elt Ideal .bf16) (X12 : S1x24x96x128.Idx → Elt Ideal .fp8e4m3) (X13 : S1x24x96.Idx → Elt Ideal .f32)
    (f14 : Bf (F := Ideal) c arg14) (f15 : Bf (F := Ideal) c arg15) (f16 : Bf (F := Ideal) c arg16) (f17 : Bf (F := Ideal) c arg17)
    (hw : ∀ hi : (i 0).val < 96, smemWord c arg1 f1 i = docEnd m c ⟨(i 0).val / 32, by omega⟩)
    (hs : (i 0).val < 96 → (i 0).val % 32 ≠ 0 → Held m c arg14 arg15 arg16 arg17 ((i 0).val / 32) ((i 0).val % 32) f14 f15 f16 f17)
    (hY : (i 0).val < 96 → ∀ (r : Fin 256) (col : Fin 11520), X2 (ix3 0 r col) = aY m c ((i 0).val / 32) (256 * ((i 0).val % 32) + r) col)
    (hC : (i 0).val < 96 → liveAt m c (i 0).val → ∀ (r : Fin 256) (k : Fin 1024), X3 (ix3 0 r k) = aC m c ((i 0).val / 32) (256 * ((i 0).val % 32) + r) k)
    (hDT : (i 0).val < 96 → liveAt m c (i 0).val → ∀ (r : Fin 256) (l : Fin 120), X4 (ix3 0 r l) = aDT m c ((i 0).val / 32) (256 * ((i 0).val % 32) + r) l)
    (hAL : ∀ l : Fin 120, X5 (ix2 0 l) = aAL m c l)
    (hCD : (i 0).val < 96 → ∀ (col : Fin 11520) (n : Fin 128), X6 (ix3 0 col n) = aCD m c ((i 0).val / 32) col n)
    (hSC : (i 0).val < 96 → ∀ (h : Fin 120) (p : Fin 96), X7 (ix3 0 h p) = aSC m c ((i 0).val / 32) (96 * h + p))
    (E : Set ℕ) (Q : PUnit → sProp 𝕄) :
    iprop((arg1.view.loc (c : Thread nD τ) ↦{q} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ (pt c arg14 f14) ∗ (pt c arg15 f15) ∗ (pt c arg16 f16) ∗ (pt c arg17 f17) ∗ (∃ f, pt c arg18 f) ∗ (∃ f, pt c arg19 f)
        ∗ (iprop((arg1.view.loc (c : Thread nD τ) ↦{q} f1) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg12 fullShare X) ∗ (∃ X, owns (c : Thread nD τ) arg13 fullShare X) ∗ (∃ g11 g14 g15 g16 g17, pt c arg11 g11 ∗ pt c arg14 g14 ∗ pt c arg15 g15 ∗ pt c arg16 g16 ∗ pt c arg17 g17 ∗ ⌜((i 0).val < 96 → Held m c arg14 arg15 arg16 arg17 ((i 0).val / 32) ((i 0).val % 32 + 1) g14 g15 g16 g17
      ∧ ∀ (r : Fin 256) (col : Fin 11520), (arg11.view.read (Elt Ideal) g11) (ix3 0 r col) = ans m c ((i 0).val / 32) (256 * ((i 0).val % 32) + r) col) ∧ (¬ (i 0).val < 96 → arg11.view.read (Elt Ideal) g11 = X11)⌝) ∗ (∃ f, pt c arg18 f) ∗ (∃ f, pt c arg19 f)) -∗ Q ⟨⟩))
  ⊢ wp Idealize.ShloMosaic.frame (wpE (defs₀ (F := Ideal)) Variants.none c none) E (cc0_carry_correction (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  refine bodyTracked c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q f1 X2 X3 X4 X5 X6 X7 X8 X9 X10 X11 X12 X13 f14 f15 f16 f17
    (fun g14 g15 g16 g17 X => ((i 0).val < 96 → Held m c arg14 arg15 arg16 arg17 ((i 0).val / 32) ((i 0).val % 32 + 1) g14 g15 g16 g17
      ∧ ∀ (r : Fin 256) (col : Fin 11520), X (ix3 0 r col) = ans m c ((i 0).val / 32) (256 * ((i 0).val % 32) + r) col) ∧ (¬ (i 0).val < 96 → X = X11)) ?_ E Q
  intro f2 f3 f4 f5 f6 f7 f11 g11 g14 g15 g16 g17 g17a g11a e2 e3 e4 e5 e6 e7 ex e16 e17a e14 e15 e17 e11a e11
  subst e2 e3 e4 e5 e6 e7 ex
  refine ⟨fun hi => ?_, fun hi => ?_⟩
  · exact body_held c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f11 f14 f15 f16 f17 g11 g14 g15 g16 g17 g17a g11a e16 e17a e14 e15 e17 e11a e11
      hi (hw hi) (hs hi) (hY hi) (hC hi) (hDT hi) hAL (hCD hi) (hSC hi)
  · rw [dif_neg (idle i hi _).2] at e11
    rw [dif_neg (idle i hi _).1] at e11a
    rw [e11, e11a]

end Cert.KernelIdeal.Gen

end
-- ==== Proof.IdealCall.lean ====
/-
  The kernel call over the extended reals with what its blocks hold tracked: run from any launch state it leaves the formula in
  the first result's array and its arguments as launched.
-/
module

public import proofs.«01_k».proof.Proof.IdealChunk
public import Idealize.ShloMosaic.Lib.Pipeline.ArrRel
public import Idealize.ShloMosaic.Lib.Pipeline.ValueKit.Geometry
public import proofs.«01_k».proof.Proof.IdealKit
public import Idealize.ShloMosaic.Lib.Affine
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A block of the first result holds the chunk's part of the formula. -/
def Out (c : Dev nD) (n : ℕ) (X : S1x256x11520.Idx → EReal) : Prop :=
  ∀ (r : Fin 256) (col : Fin 11520), X (ix3 0 r col) = ans m c (n / 32) (256 * (n % 32) + r) col

/-- What a step leaves in a window's buffer, given what it found: the first result's block is the formula's while there are
    chunks left and untouched after, and an input is as it was found. -/
def left (c : Dev nD) (w : Fin 12) (t : Fin (cfgM m).N) (Y X : ((cfgM m).win w).block.Idx → Elt Ideal ((cfgM m).win w).elt) : Prop :=
  match w, Y, X with
  | ⟨9, _⟩, Y, X => (t.val < 96 → Out m c t.val X) ∧ (¬ t.val < 96 → X = Y)
  | w, Y, X => (spec0 w).isOut = false → X = Y

/-- What a step finds in the scratch buffers. -/
def state (c : Dev nD) (n : ℕ) : sProp 𝕄 :=
  iprop((∃ f14 f15 f16 f17, pt (F := Ideal) c (Memref.whole cc0_scratch0) f14 ∗ pt (F := Ideal) c (Memref.whole cc0_scratch1) f15
      ∗ pt (F := Ideal) c (Memref.whole cc0_scratch2) f16 ∗ pt (F := Ideal) c (Memref.whole cc0_scratch3) f17
      ∗ ⌜n < 96 → n % 32 ≠ 0 → Held m c (Memref.whole cc0_scratch0) (Memref.whole cc0_scratch1) (Memref.whole cc0_scratch2) (Memref.whole cc0_scratch3) (n / 32) (n % 32) f14 f15 f16 f17⌝)
    ∗ (∃ f, pt (F := Ideal) c (Memref.whole cc0_scratch4) f) ∗ (∃ f, pt (F := Ideal) c (Memref.whole cc0_scratch5) f)
    ∗ (∃ r, prngReg c r) ∗ tbPt0 c tbM0_0 (tbl m 0))

/-- The proof data of the tracked run. -/
def rdatT (c : Dev nD) : RDat τ (Elt Ideal) Unit ℕ (UR sig nD τ) ℕ ((Pipeline.pin pcfgs fun _ => adm m) 0) c where
  A w := V m c (Pipeline.arrRef spec0 w)
  after w t Y X := left m c w t Y X
  Φ t := state m c t.val
  q := Pipeline.shareOf spec0
  owed _ := 0

/-- An input's buffer is left as found. -/
theorem left_keeps (c : Dev nD) : ∀ w : Fin 12, (spec0 w).isOut = false → ∀ t Y X, (rdatT m c).after w t Y X → X = Y := by
  intro w hw t Y X h
  fin_cases w
  all_goals first | exact h hw | exact absurd hw (by decide)

/-- Before the first step nothing is asked of the scratch. -/
theorem state_open (c : Dev nD) : iprop(Pipeline.ΦA spec0 c ∗ Pipeline.ΦT pre0 (tbl m) c) ⊢ (state m c 0 : sProp 𝕄) := by
  rw [PhiT0_eq]; unfold Pipeline.ΦA; rw [scopedRest0_eq]; unfold state
  iintro ⟨⟨⟨⟨%f14, S0⟩, ⟨%f15, S1⟩, ⟨%f16, S2⟩, ⟨%f17, S3⟩, S4, S5⟩, Hr⟩, HT⟩
  isplitl [S0 S1 S2 S3]
  · iexists f14, f15, f16, f17
    isplitl [S0]; · iexact S0
    isplitl [S1]; · iexact S1
    isplitl [S2]; · iexact S2
    isplitl [S3]; · iexact S3
    ipureintro; exact fun _ h => absurd rfl h
  isplitl [S4]; · iexact S4
  isplitl [S5]; · iexact S5
  isplitl [Hr]; · iexact Hr
  iexact HT

/-- The scratch buffers, put together into what the next step finds. -/
theorem state_mk (c : Dev nD) (n : ℕ) (f14 : Bf (F := Ideal) c (Memref.whole cc0_scratch0)) (f15 : Bf (F := Ideal) c (Memref.whole cc0_scratch1))
    (f16 : Bf (F := Ideal) c (Memref.whole cc0_scratch2)) (f17 : Bf (F := Ideal) c (Memref.whole cc0_scratch3))
    (h : n < 96 → n % 32 ≠ 0 → Held m c (Memref.whole cc0_scratch0) (Memref.whole cc0_scratch1) (Memref.whole cc0_scratch2) (Memref.whole cc0_scratch3) (n / 32) (n % 32) f14 f15 f16 f17) :
    iprop(pt (F := Ideal) c (Memref.whole cc0_scratch0) f14 ∗ pt (F := Ideal) c (Memref.whole cc0_scratch1) f15
      ∗ pt (F := Ideal) c (Memref.whole cc0_scratch2) f16 ∗ pt (F := Ideal) c (Memref.whole cc0_scratch3) f17
      ∗ (∃ f, pt (F := Ideal) c (Memref.whole cc0_scratch4) f) ∗ (∃ f, pt (F := Ideal) c (Memref.whole cc0_scratch5) f)
      ∗ (∃ r, prngReg c r) ∗ tbPt0 c tbM0_0 (tbl m 0)) ⊢ (state m c n : sProp 𝕄) := by
  unfold state
  iintro ⟨S0, S1, S2, S3, S4, S5, Hr, HT⟩
  isplitl [S0 S1 S2 S3]
  · iexists f14, f15, f16, f17
    isplitl [S0]; · iexact S0
    isplitl [S1]; · iexact S1
    isplitl [S2]; · iexact S2
    isplitl [S3]; · iexact S3
    ipureintro; exact h
  isplitl [S4]; · iexact S4
  isplitl [S5]; · iexact S5
  isplitl [Hr]; · iexact Hr
  iexact HT

/-- After the last step the scratch is given back. -/
theorem state_close (c : Dev nD) (n : ℕ) : (state m c n : sProp 𝕄) ⊢ Pipeline.ΦA spec0 c := by
  unfold Pipeline.ΦA; rw [scopedRest0_eq]; unfold state
  iintro ⟨⟨%f14, %f15, %f16, %f17, S0, S1, S2, S3, -⟩, S4, S5, Hr, -⟩
  isplitl [S0 S1 S2 S3 S4 S5]
  · isplitl [S0]; · iexists f14; iexact S0
    isplitl [S1]; · iexists f15; iexact S1
    isplitl [S2]; · iexists f16; iexact S2
    isplitl [S3]; · iexists f17; iexact S3
    isplitl [S4]; · iexact S4
    iexact S5
  iexact Hr

set_option maxHeartbeats 2000000 in
/-- One step of the grid leaves what the data say, from what the step before left. -/
theorem bodyT (c : Dev nD) : (rdatT m c).BodyObligation (defs₀ (F := Ideal)) Variants.none () Set.univ := by
  intro t Y hF
  rw [bigSep_W0, bigSep_W0]
  refine Eq.mpr (congrArg (fun p => _ ⊢ wp Idealize.ShloMosaic.frame (wpE (defs₀ (F := Ideal)) Variants.none c none) Set.univ p _) (defs₀_row m t).symm) ?_
  show iprop(state m c t.val ∗ _ ∗ _) ⊢ _
  unfold state
  iintro ⟨⟨⟨%f14, %f15, %f16, %f17, S0, S1, S2, S3, %hH⟩, ⟨%f18, S4⟩, S5, Hr, HT⟩, Ho, H0, H1, H2, H3, H4, H5, H6, H7, H8, H9, H10, H11⟩
  have hA : ∀ w, (rdatT m c).A w = V m c (Pipeline.arrRef spec0 w) := fun _ => rfl
  have hk := left_keeps m c
  have hv := coords_val m t
  iapply (bodyChunk m c (grid0.coords t) _ _ _ _ _ _ _ _ _ _ _ _ _ _ _ _ _ _ _ _ _ _ _ _ _ _ _ _ _ _ _ _ _ _ _ _ _ _ fullShare.right (tbl m 0) (Y 0) (Y 1) (Y 2) (Y 3) (Y 4) (Y 5) (Y 6) (Y 7) (Y 8) (Y 9) (Y 10) (Y 11)
    f14 f15 f16 f17 (fun hi => smem_word m c (grid0.coords t) hi) (by rw [hv]; exact hH)
    (fun hi r col => by rw [hv] at hi ⊢; exact found0 hA hk t hi (Y 0) (hF 0) r col)
    (fun hi hl r k => by rw [hv] at hi hl ⊢; exact found1 hA hk t hi hl (Y 1) (hF 1) r k)
    (fun hi hl r l => by rw [hv] at hi hl ⊢; exact found2 hA hk t hi hl (Y 2) (hF 2) r l)
    (fun l => found3 hA hk t (Y 3) (hF 3) l)
    (fun hi col n => by rw [hv] at hi ⊢; exact found4 hA hk t hi (Y 4) (hF 4) col n)
    (fun hi h p => by rw [hv] at hi ⊢; exact found5 hA hk t hi (Y 5) (hF 5) h p) Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexists _; iexact S4
  isplitl [S5]; · iexact S5
  iintro ⟨HT, H0, H1, H2, H3, H4, H5, H6, H7, H8, H10, H11, ⟨%g11, %g14, %g15, %g16, %g17, H9, S0, S1, S2, S3, %hr⟩, S4, S5⟩
  rw [hv] at hr
  isplitl [HT S0 S1 S2 S3 S4 S5 Hr]
  · iapply (show _ ⊢ (rdatT m c).Φ t.succ from state_mk m c (t.val + 1) g14 g15 g16 g17 fun h1 h2 => by
      have := (hr.1 (by omega)).1
      rw [show (t.val + 1) / 32 = t.val / 32 by omega, show (t.val + 1) % 32 = t.val % 32 + 1 by omega]
      exact this)
    isplitl [S0]; · iexact S0
    isplitl [S1]; · iexact S1
    isplitl [S2]; · iexact S2
    isplitl [S3]; · iexact S3
    isplitl [S4]; · iexact S4
    isplitl [S5]; · iexact S5
    isplitl [Hr]; · iexact Hr
    iexact HT
  isplitl [Ho]; · iexact Ho
  isplitl [H0]; · (iexists (Y 0); isplitr; (ipureintro; exact fun _ => rfl); iexact H0)
  isplitl [H1]; · (iexists (Y 1); isplitr; (ipureintro; exact fun _ => rfl); iexact H1)
  isplitl [H2]; · (iexists (Y 2); isplitr; (ipureintro; exact fun _ => rfl); iexact H2)
  isplitl [H3]; · (iexists (Y 3); isplitr; (ipureintro; exact fun _ => rfl); iexact H3)
  isplitl [H4]; · (iexists (Y 4); isplitr; (ipureintro; exact fun _ => rfl); iexact H4)
  isplitl [H5]; · (iexists (Y 5); isplitr; (ipureintro; exact fun _ => rfl); iexact H5)
  isplitl [H6]; · (iexists (Y 6); isplitr; (ipureintro; exact fun _ => rfl); iexact H6)
  isplitl [H7]; · (iexists (Y 7); isplitr; (ipureintro; exact fun _ => rfl); iexact H7)
  isplitl [H8]; · (iexists (Y 8); isplitr; (ipureintro; exact fun _ => rfl); iexact H8)
  isplitl [H9]
  · iexists _
    isplitr
    · ipureintro; exact (⟨fun h => (hr.1 h).2, hr.2⟩ : left m c 9 t (Y 9) _)
    · iapply (owns_mk c _ (stage_whole0 9 _) g11); iexact H9
  isplitl [H10]; · (icases H10 with ⟨%X, H10⟩; iexists X; isplitr; (ipureintro; exact fun h => absurd h (by decide)); iexact H10)
  (icases H11 with ⟨%X, H11⟩; iexists X; isplitr; (ipureintro; exact fun h => absurd h (by decide)); iexact H11)

end Cert.KernelIdeal.Gen

end
-- ==== Proof.IdealAnswer.lean ====
/- What the kernel leaves in the first result's array: the formula at every element.
-/
module

public import proofs.«01_k».proof.Proof.IdealCall
public import Idealize.ShloMosaic.Lib.Pipeline.ArrRel
public import Idealize.ShloMosaic.Lib.Pipeline.ValueKit.Geometry
public import proofs.«01_k».proof.Proof.IdealKit
public import Idealize.ShloMosaic.Lib.Affine
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block of the first result at a step: its batch and its chunk; the steps after step 95 keep the block of step 95. -/
theorem idx9 (t : Fin (cfgM m).N) : ((cfgM m).win 9).index t (0 : Fin 3) = min t.val 95 / 32 ∧ ((cfgM m).win 9).index t (1 : Fin 3) = min t.val 95 % 32
    ∧ ((cfgM m).win 9).index t (2 : Fin 3) = 0 := by
  have h : ∀ t : Fin 101, cc0_transform_9 (grid0.coords t) 0 = min t.val 95 / 32 ∧ cc0_transform_9 (grid0.coords t) 1 = min t.val 95 % 32
      ∧ cc0_transform_9 (grid0.coords t) 2 = 0 := by decide +kernel
  exact h t

/-- Two steps have the same block exactly when they are the same step or both are at step 95 or later. -/
theorem index9_eq (t u : Fin (cfgM m).N) : ((cfgM m).win 9).index t = ((cfgM m).win 9).index u ↔ min t.val 95 = min u.val 95 := by
  obtain ⟨a0, a1, a2⟩ := idx9 m t
  obtain ⟨b0, b1, b2⟩ := idx9 m u
  constructor
  · intro h
    have h0 := congrFun h (0 : Fin 3); have h1 := congrFun h (1 : Fin 3)
    rw [a0, b0] at h0; rw [a1, b1] at h1
    omega
  · intro h
    funext a
    revert a
    show ∀ a : Fin 3, _
    intro a; fin_cases a
    · exact a0.trans (by rw [h]; exact b0.symm)
    · exact a1.trans (by rw [h]; exact b1.symm)
    · exact a2.trans b2.symm

/-- The first result's block is written back after each chunk but the last, and after the last step. -/
theorem flush9 (t : Fin (cfgM m).N) : ((cfgM m).win 9).flush t = true ↔ t.val < 95 ∨ t.val = 100 := by
  have hN : (cfgM m).N = 101 := rfl
  have ht := t.isLt
  have key : ((cfgM m).win 9).flush t = true ↔ t.val + 1 = (cfgM m).N ∨ ∃ h : t.val + 1 < (cfgM m).N, ((cfgM m).win 9).index ⟨t.val + 1, h⟩ ≠ ((cfgM m).win 9).index t := by
    unfold Window.flush
    rw [show ((cfgM m).win 9).isOut = true from rfl, Bool.true_and, Bool.or_eq_true, decide_eq_true_iff, decide_eq_true_iff]
  rw [key]
  constructor
  · rintro (h | ⟨h, h'⟩)
    · right; omega
    · rw [Ne, index9_eq] at h'
      have h' : ¬ min (t.val + 1) 95 = min t.val 95 := h'
      omega
  · rintro (h | h)
    · right
      refine ⟨by omega, ?_⟩
      rw [Ne, index9_eq]
      show ¬ min (t.val + 1) 95 = min t.val 95
      omega
    · left; omega

/-- No step fetches the first result. -/
theorem fetch9 (t : Fin (cfgM m).N) : ((cfgM m).win 9).fetch t = false := by
  unfold Window.fetch
  rw [show ((cfgM m).win 9).isOut = true from rfl]; rfl

/-- What the body leaves in the first result's buffer, at any point: the formula's part of the point's chunk. -/
theorem leaves9 (c : Dev nD) (n : ℕ) : ∀ (hn : n < (cfgM m).N) (X), (rdatT m c).Leaves 9 ⟨n, hn⟩ X → Out m c (min n 95) X := by
  induction n with
  | zero => intro hn X ⟨Y, _, h⟩; exact (h : left m c 9 _ Y X).1 (show (0 : ℕ) < 96 by decide)
  | succ n ih =>
    rintro hn X ⟨Y, hY, h⟩
    have h : (n + 1 < 96 → Out m c (n + 1) X) ∧ (¬ n + 1 < 96 → X = Y) := h
    by_cases hl : n + 1 < 96
    · rw [min_eq_left (by omega)]; exact h.1 hl
    · rw [h.2 hl]
      rcases ((rdatT m c).finds_of_pos (fetch9 m ⟨n + 1, hn⟩) (Nat.succ_ne_zero n) Y).mp hY with hf | hf
      · rw [flush9] at hf
        have hf : n < 95 ∨ n = 100 := hf
        have : n + 1 < 101 := hn
        omega
      · have := ih (by omega) Y hf
        rwa [show min (n + 1) 95 = min n 95 by omega]

/-- The first result, by the formula. -/
def ansArr (c : Dev nD) : S3x8192x11520.Idx → EReal := fun j => ans m c (j 0) (j 1) (j 2)

/-- Where an element of the block of a step stands in the first result. -/
theorem emb9 (t : Fin (cfgM m).N) (y : S1x256x11520.Idx) :
    ((((cfgM m).win 9).blk t).view.emb y (0 : Fin 3) : ℕ) = min t.val 95 / 32
      ∧ ((((cfgM m).win 9).blk t).view.emb y (1 : Fin 3) : ℕ) = 256 * (min t.val 95 % 32) + (y 1).val
      ∧ ((((cfgM m).win 9).blk t).view.emb y (2 : Fin 3) : ℕ) = (y 2).val := by
  obtain ⟨h0, h1, h2⟩ := idx9 m t
  refine ⟨?_, ?_, ?_⟩
  · blk_simp; exact h0
  · blk_simp; rw [h1]
    show min t.val 95 % 32 * 256 + (y 1).val = _; omega
  · blk_simp; rw [h2]
    show 0 * 11520 + (y 2).val = _; omega

/-- Blocks that hold the formula make an array that holds the formula. -/
theorem arr9 (c : Dev nD) (after : (w : Fin 12) → Fin (cfgM m).N → ((cfgM m).win w).block.Idx → Elt Ideal ((cfgM m).win w).elt)
    (hL : ∀ u : Fin (cfgM m).N, ((cfgM m).win 9).flush u = true → (rdatT m c).Leaves 9 u (after 9 u)) :
    ((rdatT m c).withAfter after).arrAt 9 (cfgM m).N = ansArr m c := by
  refine Pipeline.Dat.arrAt_eq_of_emb _ 9 _ (fun t hf y => ?_) (fun i => ?_)
  · have hX := leaves9 m c t.val t.isLt (after 9 t) (hL t hf)
    obtain ⟨h0, h1, h2⟩ := idx9 m t
    let y' : S1x256x11520.Idx := y
    have hy : y' = ix3 0 (y' 1) (y' 2) := by
      funext a; apply Fin.ext; fin_cases a
      · show (y' 0).val = 0; have := (y' 0).isLt; have : (y' 0).val < 1 := this; omega
      · rfl
      · rfl
    obtain ⟨e0, e1, e2⟩ := emb9 m t y
    refine Eq.trans ?_ (show ans m c (min t.val 95 / 32) (256 * (min t.val 95 % 32) + (y' 1).val) (y' 2).val = _ from ?_)
    · exact (congrArg (after 9 t) hy).trans (hX (y' 1) (y' 2))
    · rw [← e0, ← e1, ← e2]; rfl
  · let i' : S3x8192x11520.Idx := i
    have b0 : (i' 0).val < 3 := (i' 0).isLt
    have b1 : (i' 1).val < 8192 := (i' 1).isLt
    have b2 : (i' 2).val < 11520 := (i' 2).isLt
    obtain ⟨t, ht, hm⟩ : ∃ t : Fin (cfgM m).N, (t.val < 95 ∨ t.val = 100) ∧ min t.val 95 = 32 * (i' 0).val + (i' 1).val / 256 := by
      have hN : (cfgM m).N = 101 := rfl
      by_cases h : 32 * (i' 0).val + (i' 1).val / 256 < 95
      · exact ⟨⟨32 * (i' 0).val + (i' 1).val / 256, by omega⟩, Or.inl h, min_eq_left (Nat.le_of_lt h)⟩
      · exact ⟨⟨100, by omega⟩, Or.inr rfl, by show min 100 95 = _; omega⟩
    refine ⟨t, (flush9 m t).mpr ht, ?_⟩
    obtain ⟨e0, e1, e2⟩ := emb9 m t (ix3 0 ⟨(i' 1).val % 256, Nat.mod_lt _ (by decide)⟩ (i' 2))
    rw [hm] at e0 e1
    have hi : i' = (((cfgM m).win 9).blk t).view.emb (ix3 0 ⟨(i' 1).val % 256, Nat.mod_lt _ (by decide)⟩ (i' 2)) := by
      funext a; apply Fin.ext
      revert a
      show ∀ a : Fin 3, _
      intro a; fin_cases a
      · refine Eq.trans ?_ e0.symm
        show (i' 0).val = _; omega
      · refine Eq.trans ?_ e1.symm
        show (i' 1).val = 256 * _ + (i' 1).val % 256; omega
      · exact e2.symm
    exact Eq.mpr (congrArg (· ∈ _) hi) (View.emb_mem_set _ _)

/-- Every run of the kernel over the extended reals ends with the formula in the first result's array, its arguments as
    launched and its counters at zero. -/
theorem run_value : θ_run (defs (F := Ideal)) (onTc (τ := τ) (main (F := Ideal))) ⟨m, fun _ => 0, ρ⟩ (fun r => (∀ c : Dev nD,
      r.2.mem ((c.tc : Thread nD τ).loc main_v3_0) = ansArr m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  Pipeline.RDat.θ_run_frameP_track_shared pcfgs (fun _ => adm m) 0 launch₀0 defs₀ Variants.none (rdatT m) m ρ (main (F := Ideal))
    (fun c => bodyT m c) (fun _ _ _ => rfl) (fun _ _ => rfl) (V m) (hmain m Variants.none) (fun _ _ => rfl) (V_pre m)
    (fun c => state_open m c) (fun c => state_close m c _) (Q' := _)
    (hQ' := fun r h => ⟨fun c => by
      obtain ⟨after, hL, hA⟩ := Pipeline.RDat.FramePost.exists_exact h.1 c
      exact (hA 9).trans (arr9 m c after fun u hu => hL 9 u hu), args_of m (rdatT m) (fun _ _ => rfl) h.1⟩)

end Cert.KernelIdeal.Gen

end
-- ==== Proof.RefCumsum.lean ====
/- A running sum over the extended reals, read at an index. -/
module

public import proofs.«01_k».proof.ReferenceIdeal
public import Idealize.ShloMosaic.Lib.Pointwise

@[expose] public section

set_option maxRecDepth 16384

noncomputable section

namespace Cert.Carry

open Idealize.ShloMosaic Cert.ReferenceIdeal

/-- A left fold of additions is the start value plus the sum. -/
theorem foldl_add_eq {α : Type} (g : α → EReal) (l : List α) : ∀ v : EReal, l.foldl (fun r n => r + g n) v = v + (l.map g).sum := by
  induction l with
  | nil => intro v; simp
  | cons a l ih => intro v; rw [List.foldl_cons, ih, List.map_cons, List.sum_cons, add_assoc]

/-- The sum of the elements of a window that is padded in front. -/
theorem sum_padded (X : ℕ → EReal) (N : ℕ) (hN : N = 8192) (i : ℕ) (hi : i < 8192) :
    (∑ n : Fin N, if 8191 ≤ i + n.val then X (i + n.val - 8191) else 0) = ∑ j ∈ Finset.range (i + 1), X j := by
  subst hN
  rw [Fin.sum_univ_eq_sum_range (fun n => if 8191 ≤ i + n then X (i + n - 8191) else 0),
    show (8192 : ℕ) = (8191 - i) + (i + 1) by omega, Finset.sum_range_add, Finset.sum_eq_zero, zero_add]
  · refine Finset.sum_congr rfl fun j _ => ?_
    rw [if_pos (by omega), show i + (8191 - i + j) - 8191 = j by omega]
  · intro n hn
    rw [Finset.mem_range] at hn
    rw [if_neg (by omega)]

/-- The reference's windowed sum along the tokens is the sum of the prefix. -/
theorem cumsum_apply (x : S3x8192x120.Idx → EReal) (h : S3x8192x120.ReduceWindows ![1, 8192, 1] ![1, 1, 1] ![0, 8191, 0] ![0, 0, 0] S3x8192x120)
    (b : Fin 3) (i : Fin 8192) (l : Fin 120) :
    Ideal.hostReduceWindowAdd ![1, 8192, 1] ![1, 1, 1] ![0, 8191, 0] ![0, 0, 0] h x 0 (ix3 b i l)
      = ∑ j ∈ Finset.range (i.val + 1), x (ix3 b (Fin.ofNat 8192 j) l) := by
  unfold Ideal.hostReduceWindowAdd Host.reduceWindow
  dsimp only
  rw [foldl_add_eq, zero_add, ← Fin.sum_univ_def]
  rw [← sum_padded (fun j => x (ix3 b (Fin.ofNat 8192 j) l)) (Shape.numel ⟨3, ![1, 8192, 1]⟩) (by decide) i.val i.isLt]
  refine Finset.sum_congr rfl fun n _ => ?_
  set p := (Shape.rowMajor ⟨3, ![1, 8192, 1]⟩).symm n with hp
  have hn : (Shape.rowMajor ⟨3, ![1, 8192, 1]⟩ p).val = n.val := by rw [hp, Equiv.apply_symm_apply]
  have h0 : (p (0 : Fin 3)).val < 1 := (p (0 : Fin 3)).isLt
  have h2 : (p (2 : Fin 3)).val < 1 := (p (2 : Fin 3)).isLt
  have h1 : (p (1 : Fin 3)).val < 8192 := (p (1 : Fin 3)).isLt
  have e : (p (1 : Fin 3)).val = n.val := by
    erw [Shape.rowMajor_val_three] at hn
    have hn : ((p (0 : Fin 3)).val * 8192 + (p (1 : Fin 3)).val) * 1 + (p (2 : Fin 3)).val = n.val := hn
    omega
  by_cases hc : 8191 ≤ i.val + n.val
  · have hin : ∀ a : Fin 3, (![0, 8191, 0] : Fin 3 → ℕ) a ≤ (ix3 b i l a).val * (![1, 1, 1] : Fin 3 → ℕ) a + (p a).val
        ∧ (ix3 b i l a).val * (![1, 1, 1] : Fin 3 → ℕ) a + (p a).val - (![0, 8191, 0] : Fin 3 → ℕ) a < S3x8192x120.size a := by
      intro a
      fin_cases a
      · show 0 ≤ b.val * 1 + (p (0 : Fin 3)).val ∧ b.val * 1 + (p (0 : Fin 3)).val - 0 < 3; omega
      · show 8191 ≤ i.val * 1 + (p (1 : Fin 3)).val ∧ i.val * 1 + (p (1 : Fin 3)).val - 8191 < 8192; omega
      · show 0 ≤ l.val * 1 + (p (2 : Fin 3)).val ∧ l.val * 1 + (p (2 : Fin 3)).val - 0 < 120; omega
    rw [if_pos hc]
    refine (dif_pos hin).trans (congrArg x ?_)
    funext a; apply Fin.ext; fin_cases a
    · show b.val * 1 + (p (0 : Fin 3)).val - 0 = b.val; omega
    · show i.val * 1 + (p (1 : Fin 3)).val - 8191 = (i.val + n.val - 8191) % 8192; omega
    · show l.val * 1 + (p (2 : Fin 3)).val - 0 = l.val; omega
  · rw [if_neg hc]
    refine dif_neg fun hin => hc ?_
    have := (hin (1 : Fin 3)).1
    have this : 8191 ≤ i.val * 1 + (p (1 : Fin 3)).val := this
    omega

end Cert.Carry

end
-- ==== Proof.RefTail.lean ====
/- The reference's operations after its kernel call, read at an element of the first result. -/
module

public import proofs.«01_k».proof.Proof.Gen.ReferenceIdeal.Frame
public import Idealize.ShloMosaic.Lib.StableHlo.ReadAt
public import Idealize.ShloMosaic.Lib.Pointwise

@[expose] public section

set_option maxRecDepth 16384

noncomputable section

namespace Cert.ReferenceIdeal.Gen

open Idealize.ShloMosaic Idealize.ShloMosaic.TcCoe

/-- The inner products of the decoded codes with C, by group. -/
def inner (v11 : FVec Ideal S3x120x96x128 .bf16) (a1 : FVec Ideal S3x8192x8x128 .bf16) : FVec Ideal S3x8192x120x96 .f32 :=
  shapeCast S3x8192x120x96 (transpose S3x8192x8x15x96 [0, 4, 1, 2, 3]
    (Host.dotGeneral dot_S3x8x15x96x128_S3x8192x8x128_S3x8x15x96x8192_4_3_23_1_01_02 none
      (shapeCast S3x8x15x96x128 v11 shapeCasts_S3x120x96x128_S3x8x15x96x128 : FVec Ideal S3x8x15x96x128 .bf16) a1)
    transposes_S3x8x15x96x8192_S3x8192x8x15x96_0_4_1_2_3) shapeCasts_S3x8192x8x15x96_S3x8192x120x96

/-- The decay, masked to the live tokens. -/
def masked (a7 : IVec S3 32) (v6 : FVec Ideal S3x8192x120 .f32) : FVec Ideal S3x8192x120 .f32 :=
  select
    (broadcastInDim S3x8192x120 ![0, 1, 2] bcast_S3x8192x1_S3x8192x120_0_1_2
      (broadcastInDim S3x8192x1 ![0, 1] bcast_S3x8192_S3x8192x1_0_1
        (cmpi CmpIPredicate.slt
          (broadcastInDim S3x8192 ![0, 1] bcast_S1x8192_S3x8192_0_1
            (broadcastInDim S1x8192 ![1] bcast_S8192_S1x8192_1 (iotaInDim S8192 32 0)))
          (broadcastInDim S3x8192 ![0, 1] bcast_S3x1_S3x8192_0_1
            (broadcastInDim S3x1 ![0] bcast_S3_S3x1_0 a7)))))
    v6
    (broadcastInDim S3x8192x120 ![] bcast_S_S3x8192x120 (constant S_ FTy.f32 0#32))

/-- The correction of the first result. -/
def correction (u : FVec Ideal S3x8192x120x96 .f32) (a5 : FVec Ideal S3x120x96 .f32) (k : FVec Ideal S3x8192x120 .f32) : FVec Ideal S3x8192x120x96 .f32 :=
  mulf (mulf u
      (broadcastInDim S3x8192x120x96 ![0, 1, 2, 3] bcast_S3x1x120x96_S3x8192x120x96_0_1_2_3
        (broadcastInDim S3x1x120x96 ![0, 2, 3] bcast_S3x120x96_S3x1x120x96_0_2_3 a5)))
    (broadcastInDim S3x8192x120x96 ![0, 1, 2, 3] bcast_S3x8192x120x1_S3x8192x120x96_0_1_2_3
      (broadcastInDim S3x8192x120x1 ![0, 1, 2] bcast_S3x8192x120_S3x8192x120x1_0_1_2 k))

/-- The first result in terms of what the call leaves. -/
theorem tail_read (W : Valuation τ sig (Elt Ideal)) :
    StableHlo.after (List.flatten [hostOps1, hostOps1_1, hostOps1_2]) W (Proc.devRef .tc main_v33)
      = truncf FTy.bf16 (addf (extf FTy.f32 (W (Proc.devRef .tc main_arg0) : FVec Ideal S3x8192x11520 .bf16) bitsLt_bf16_f32)
          (shapeCast S3x8192x11520 (correction (inner (W (Proc.devRef .tc main_v11_0)) (W (Proc.devRef .tc main_arg1))) (W (Proc.devRef .tc main_arg5))
            (masked (W (Proc.devRef .tc main_arg7)) (W (Proc.devRef .tc main_v6)))) shapeCasts_S3x8192x120x96_S3x8192x11520 : FVec Ideal S3x8192x11520 .f32)) bitsLt_bf16_f32 := by
  unfold hostOps1 hostOps1_1 hostOps1_2
  simp only [List.flatten_cons, List.flatten_nil, List.append_nil, List.cons_append, List.nil_append]
  after_reads_simp
  simp -implicitDefEqProofs only [StableHlo.TRef.toBuf, StableHlo.TRef.ofBuf, cast_cast, cast_eq]
  rfl

/-- The inner products at an element. -/
theorem inner_apply (v11 : FVec Ideal S3x120x96x128 .bf16) (a1 : FVec Ideal S3x8192x8x128 .bf16) (b : Fin 3) (i : Fin 8192) (h : Fin 120) (p : Fin 96) :
    inner v11 a1 (ix4 b i h p) = ∑ n : Fin 128, (a1 (ix4 b i ⟨h / 15, by omega⟩ n) : EReal) * v11 (ix4 b h p n) := by
  unfold inner
  rw [shapeCast_apply _ _ _ (ix5 b i (⟨h / 15, by omega⟩ : Fin 8) (⟨h % 15, by omega⟩ : Fin 15) p) (by
    erw [Shape.rowMajor_val_five, Shape.rowMajor_val_four]
    show (((b.val * 8192 + i.val) * 8 + h.val / 15) * 15 + h.val % 15) * 96 + p.val = ((b.val * 8192 + i.val) * 120 + h.val) * 96 + p.val
    omega)]
  have e : ∀ n : Fin 128, (shapeCast S3x8x15x96x128 v11 shapeCasts_S3x120x96x128_S3x8x15x96x128) (ix5 b (⟨h / 15, by omega⟩ : Fin 8) (⟨h % 15, by omega⟩ : Fin 15) p n) = v11 (ix4 b h p n) := by
    intro n
    refine shapeCast_apply _ _ _ _ ?_
    erw [Shape.rowMajor_val_five, Shape.rowMajor_val_four]
    show ((b.val * 120 + h.val) * 96 + p.val) * 128 + n.val = (((b.val * 8 + h.val / 15) * 15 + h.val % 15) * 96 + p.val) * 128 + n.val
    omega
  simp only [← e]
  generalize shapeCast S3x8x15x96x128 v11 shapeCasts_S3x120x96x128_S3x8x15x96x128 = v
  pointwise
  refine Finset.sum_congr rfl fun n _ => ?_
  exact mul_comm _ _

/-- A small number as a word is below a word, in the signed order, when it is below the word's signed value. -/
theorem slt_word (n : ℕ) (hn : n < 2 ^ 31) (w : BitVec 32) : Scalar.cmpi .slt (BitVec.ofNat 32 n) w = 1#1 ↔ (n : ℤ) < w.toInt := by
  have e : (BitVec.ofNat 32 n).toInt = n := by
    rw [BitVec.toInt_eq_toNat_of_lt (by rw [BitVec.toNat_ofNat]; omega), BitVec.toNat_ofNat]; congr 1; omega
  unfold Scalar.cmpi IntOp.cmpi
  dsimp only
  rw [BitVec.slt, e]
  by_cases h : (n : ℤ) < w.toInt <;> simp [h]

/-- The masked decay at an element. -/
theorem masked_apply (a7 : IVec S3 32) (v6 : FVec Ideal S3x8192x120 .f32) (b : Fin 3) (i : Fin 8192) (l : Fin 120) :
    masked a7 v6 (ix3 b i l) = if ((i : ℕ) : ℤ) < (a7 (ix1 b)).toInt then v6 (ix3 b i l) else 0 := by
  unfold masked
  pointwise
  have e := slt_word i.val (by omega) (a7 (ix1 b))
  unfold Scalar.cmpi at e
  unfold Scalar.select
  by_cases h : ((i : ℕ) : ℤ) < (a7 (ix1 b)).toInt
  · exact (if_pos (e.mpr h)).trans (if_pos h).symm
  · exact (if_neg (fun k => h (e.mp k))).trans (if_neg h).symm

/-- The correction at an element. -/
theorem correction_apply (u : FVec Ideal S3x8192x120x96 .f32) (a5 : FVec Ideal S3x120x96 .f32) (k : FVec Ideal S3x8192x120 .f32)
    (b : Fin 3) (i : Fin 8192) (h : Fin 120) (p : Fin 96) :
    correction u a5 k (ix4 b i h p) = (u (ix4 b i h p) : EReal) * a5 (ix3 b h p) * k (ix3 b i h) := by
  unfold correction
  pointwise

/-- The first result at an element. -/
theorem tail_apply (a0 : FVec Ideal S3x8192x11520 .bf16) (a1 : FVec Ideal S3x8192x8x128 .bf16) (a5 : FVec Ideal S3x120x96 .f32) (a7 : IVec S3 32)
    (v6 : FVec Ideal S3x8192x120 .f32) (v11 : FVec Ideal S3x120x96x128 .bf16) (b : Fin 3) (i : Fin 8192) (col : Fin 11520) :
    truncf FTy.bf16 (addf (extf FTy.f32 a0 bitsLt_bf16_f32)
        (shapeCast S3x8192x11520 (correction (inner v11 a1) a5 (masked a7 v6)) shapeCasts_S3x8192x120x96_S3x8192x11520 : FVec Ideal S3x8192x11520 .f32))
        bitsLt_bf16_f32 (ix3 b i col)
      = (a0 (ix3 b i col) : EReal)
        + (∑ n : Fin 128, (a1 (ix4 b i ⟨col / 1440, by omega⟩ n) : EReal) * v11 (ix4 b ⟨col / 96, by omega⟩ ⟨col % 96, by omega⟩ n))
          * a5 (ix3 b ⟨col / 96, by omega⟩ ⟨col % 96, by omega⟩)
          * (if ((i : ℕ) : ℤ) < (a7 (ix1 b)).toInt then v6 (ix3 b i ⟨col / 96, by omega⟩) else 0) := by
  refine congrArg₂ (fun x y : EReal => x + y) rfl ?_
  refine (shapeCast_apply _ _ _ (ix4 b i (⟨col / 96, by omega⟩ : Fin 120) (⟨col % 96, by omega⟩ : Fin 96)) (by
    erw [Shape.rowMajor_val_four, Shape.rowMajor_val_three]
    show ((b.val * 8192 + i.val) * 120 + col.val / 96) * 96 + col.val % 96 = (b.val * 8192 + i.val) * 11520 + col.val
    omega)).trans ?_
  rw [correction_apply, inner_apply, masked_apply]
  simp only [show (col : ℕ) / 96 / 15 = col / 1440 by omega]

end Cert.ReferenceIdeal.Gen

end
-- ==== Proof.RefValue.lean ====
/- The reference's first result as an equation in the arguments. -/
module

public import proofs.«01_k».proof.Proof.Answer
public import proofs.«01_k».proof.Proof.RefCumsum
public import proofs.«01_k».proof.Proof.RefTail
public import Idealize.ShloMosaic.Lib.Pipeline.ValueKit

@[expose] public section

set_option maxRecDepth 16384

noncomputable section

namespace Cert.ReferenceIdeal.Gen

open Idealize.ShloMosaic Idealize.ShloMosaic.TcCoe

variable (m : (ℓ : Loc nD τ sig) → Buf (Elt Ideal) ℓ) (ρ : Dev nD → PrngReg)

/-- The decay as the host operations write it. -/
def decayed (a2 : FVec Ideal S3x8192x120 .f32) (a3 : FVec Ideal S120 .f32) : FVec Ideal S3x8192x120 .f32 :=
  Host.exp (Host.reduceWindowAdd ![1, 8192, 1] ![1, 1, 1] ![0, 8191, 0] ![0, 0, 0]
    (mulf a2 (broadcastInDim S3x8192x120 ![0, 1, 2] bcast_S1x1x120_S3x8192x120_0_1_2
      (broadcastInDim S1x1x120 ![2] bcast_S120_S1x1x120_2 (Host.negf (Host.exp a3)))))
    (broadcastInDim S_ ![] bcast_S_S_ (constant S_ .f32 0#32)) reduceWindows_S3x8192x120_S3x8192x120_w1s1p0_0_w8192s1p8191_0_w1s1p0_0 h_S_)

/-- The decay in terms of the arguments. -/
theorem decay_read (W : Valuation τ sig (Elt Ideal)) :
    StableHlo.after (List.flatten [hostOps0, hostOps0_1, hostOps0_2]) W (Proc.devRef .tc main_v6)
      = decayed (W (Proc.devRef .tc main_arg2)) (W (Proc.devRef .tc main_arg3)) := by
  unfold hostOps0 hostOps0_1 hostOps0_2
  simp only [List.flatten_cons, List.flatten_nil, List.append_nil, List.cons_append, List.nil_append]
  after_reads_simp
  simp -implicitDefEqProofs only [StableHlo.TRef.toBuf, StableHlo.TRef.ofBuf, cast_cast, cast_eq]
  rfl

/-- The exponential of a windowed sum at an element. -/
theorem exp_scan (x : FVec Ideal S3x8192x120 .f32) (z : FVec Ideal S_ .f32) (hz : z (Shape.Idx.first h_S_) = (0 : EReal))
    (b : Fin 3) (i : Fin 8192) (l : Fin 120) :
    Host.exp (Host.reduceWindowAdd ![1, 8192, 1] ![1, 1, 1] ![0, 8191, 0] ![0, 0, 0] x z
        reduceWindows_S3x8192x120_S3x8192x120_w1s1p0_0_w8192s1p8191_0_w1s1p0_0 h_S_) (ix3 b i l)
      = Ideal.exp (∑ j ∈ Finset.range (i.val + 1), x (ix3 b (Fin.ofNat 8192 j) l)) := by
  have e := Carry.cumsum_apply x reduceWindows_S3x8192x120_S3x8192x120_w1s1p0_0_w8192s1p8191_0_w1s1p0_0 b i l
  refine (show ∀ X : FVec Ideal S3x8192x120 .f32, ∀ j, Host.exp X j = Ideal.exp (X j) from fun _ _ => rfl) _ _ |>.trans (congrArg Ideal.exp ?_)
  unfold Host.reduceWindowAdd
  rw [hz]
  exact e

/-- The decay at an element. -/
theorem decayed_apply (a2 : FVec Ideal S3x8192x120 .f32) (a3 : FVec Ideal S120 .f32) (b : Fin 3) (i : Fin 8192) (l : Fin 120) :
    decayed a2 a3 (ix3 b i l)
      = Ideal.exp (∑ j ∈ Finset.range (i.val + 1), Carry.step (Carry.argDT a2) (Carry.argAL a3) b j l) := by
  unfold decayed
  rw [exp_scan _ _ (by pointwise)]
  refine congrArg Ideal.exp (Finset.sum_congr rfl fun j hj => ?_)
  have hj' : j < 8192 := by have := Finset.mem_range.mp hj; omega
  unfold Carry.step Carry.argDT Carry.argAL
  rw [Carry.ofNat_eq b.isLt, Carry.ofNat_eq l.isLt]
  generalize Fin.ofNat 8192 j = k
  pointwise

/-- The call leaves the decoded codes in its first array. -/
theorem codes_left (c : Dev nD) (x : S3x120x96x128.Idx) :
    (dats m 0 c).arrAt 5 (cfgs 0).N x = m ((c : Thread nD τ).loc main_arg4) x := by
  refine ((dats m 0 c).arrAt_emb_eq_after_last (5 : Fin 8) ⟨0, by decide⟩ (by decide +kernel) x).trans ?_
  rw [after0_5]
  unfold out0_5
  unfold_payloads
  frame_out
  unfold iblk
  blk_simp
  have e : ∀ (B : FVec Ideal S3x120x96x128 .fp8e4m3) (y : S3x120x96x128.Idx),
      (extf (F := Ideal) .bf16 B bitsLt_fp8e4m3_bf16 y : EReal) = (B y : EReal) := fun _ _ => rfl
  refine (e _ _).trans ?_
  have ev : V m c (Pipeline.arrRef spec0 0) = m ((c : Thread nD τ).loc main_arg4) := V_main_arg4 m c
  rw [ev]
  refine congrArg (m ((c : Thread nD τ).loc main_arg4)) (funext fun a => Fin.ext ?_)
  exact Pipeline.Window.rect_emb_val_of_index_zero (cfg0.win 0) ⟨0, by decide⟩ a ((by decide : ∀ a : Fin 4, (cfg0.win 0).index ⟨0, by decide⟩ a = 0) a) _

/-- The call's arrays are distinct. -/
theorem arr_inj : Function.Injective (Pipeline.arrRef spec0) := by decide

/-- The first result at a position is the problem's formula. -/
theorem result_apply (c : Dev nD) (b : Fin 3) (i : Fin 8192) (col : Fin 11520) :
    Pipeline.afterTail₀ cfgs (dats m) 0 (V0 m) [hostOps1, hostOps1_1, hostOps1_2] c main_v33 (ix3 (n0 := 3) (n1 := 8192) (n2 := 11520) b i col)
      = Carry.answer (Carry.argY (m ((c : Thread nD τ).loc main_arg0))) (Carry.argC (m ((c : Thread nD τ).loc main_arg1)))
          (Carry.argCD (m ((c : Thread nD τ).loc main_arg4))) (Carry.argSC (m ((c : Thread nD τ).loc main_arg5)))
          (Carry.argDT (m ((c : Thread nD τ).loc main_arg2))) (Carry.argAL (m ((c : Thread nD τ).loc main_arg3)))
          (Carry.argLV (m ((c : Thread nD τ).loc main_arg7))) b i col := by
  unfold Pipeline.afterTail₀
  rw [tail_read]
  refine (tail_apply _ _ _ _ _ _ b i col).trans ?_
  have e11 : Pipeline.withArrays (cfgs 0).spec c (V0 m c) (fun w => (dats m 0 c).arrAt w (cfgs 0).N) (Proc.devRef .tc main_v11_0)
      = (dats m 0 c).arrAt 5 (cfgs 0).N := Pipeline.withArrays_arr _ arr_inj c (V0 m c) _ 5
  have e5 : Pipeline.withArrays (cfgs 0).spec c (V0 m c) (fun w => (dats m 0 c).arrAt w (cfgs 0).N) (Proc.devRef .tc main_arg5)
      = m ((c : Thread nD τ).loc main_arg5) :=
    (Pipeline.withArrays_arr _ arr_inj c (V0 m c) _ 1).trans (((dats m 0 c).arrAt_in 1 rfl _).trans ((A_eq m c 1).trans (V_main_arg5 m c)))
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans (V_main_arg7 m c)
  have e6 : Pipeline.withArrays (cfgs 0).spec c (V0 m c) (fun w => (dats m 0 c).arrAt w (cfgs 0).N) (Proc.devRef .tc main_v6)
      = decayed (m ((c : Thread nD τ).loc main_arg2)) (m ((c : Thread nD τ).loc main_arg3)) :=
    (Pipeline.withArrays_of_ne _ c (V0 m c) _ main_v6 (by exact (by decide : ∀ w, Pipeline.arrRef spec0 w ≠ main_v6))).trans (decay_read _)
  rw [e0, e1, e5, e6, e7, e11]
  simp only [codes_left, decayed_apply]
  unfold Carry.answer Carry.decay Carry.argY Carry.argC Carry.argCD Carry.argSC Carry.argLV
  simp only [Carry.ofNat_eq b.isLt, Carry.ofNat_eq i.isLt, Carry.ofNat_eq col.isLt, Carry.ofNat_eq (show (col : ℕ) / 96 < 120 by omega),
    Carry.ofNat_eq (show (col : ℕ) % 96 < 96 by omega)]
  have es : ∀ n : Fin 128, (ix4 b i (Fin.ofNat 8 ((128 * ((col : ℕ) / 1440) + n) / 128)) (Fin.ofNat 128 ((128 * ((col : ℕ) / 1440) + n) % 128)) : S3x8192x8x128.Idx)
      = ix4 b i ⟨col / 1440, by omega⟩ n := by
    intro n
    rw [show (128 * ((col : ℕ) / 1440) + n) / 128 = col / 1440 by omega, show (128 * ((col : ℕ) / 1440) + n) % 128 = n by omega,
      Carry.ofNat_eq (show (col : ℕ) / 1440 < 8 by omega), Carry.ofNat_eq n.isLt]
  have en : ∀ n : Fin 128, Fin.ofNat 128 (n : ℕ) = n := fun n => Carry.ofNat_eq n.isLt
  simp only [es, en]

/-- The first result of the whole run. -/
def refArr (c : Dev nD) : Buf (Elt Ideal) ((c : Thread nD τ).loc main_v33) := fun x : S3x8192x11520.Idx =>
  Carry.answer (Carry.argY (m ((c : Thread nD τ).loc main_arg0))) (Carry.argC (m ((c : Thread nD τ).loc main_arg1)))
    (Carry.argCD (m ((c : Thread nD τ).loc main_arg4))) (Carry.argSC (m ((c : Thread nD τ).loc main_arg5)))
    (Carry.argDT (m ((c : Thread nD τ).loc main_arg2))) (Carry.argAL (m ((c : Thread nD τ).loc main_arg3)))
    (Carry.argLV (m ((c : Thread nD τ).loc main_arg7))) (x 0) (x 1) (x 2)

/-- The whole run: the first result holds the formula and the arguments end as launched. -/
theorem run_value : θ_run (defs (F := Ideal)) (onTc (τ := τ) (main (F := Ideal))) ⟨m, fun _ => 0, ρ⟩ (fun r => (∀ c : Dev nD,
      r.2.mem ((c.tc : Thread nD τ).loc main_v33) = refArr m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  (θ_run defs _ _).mono (fun r h => ⟨fun c => by
    refine ((h c).2 main_v33 (Pipeline.mem_restRefs_of main_v33 (by decide) (by decide))).trans (funext fun x : S3x8192x11520.Idx => ?_)
    have e : x = ix3 (n0 := 3) (n1 := 8192) (n2 := 11520) (x 0) (x 1) (x 2) := by funext a; fin_cases a <;> rfl
    rw [e]
    exact result_apply m c (x 0) (x 1) (x 2), fun c => ⟨
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 0).trans (((dats m 0 c).arrAt_in 0 rfl _).trans ((A_eq m c 0).trans (V_main_arg4 m c))),
      ((h c).1 1).trans (((dats m 0 c).arrAt_in 1 rfl _).trans ((A_eq m c 1).trans (V_main_arg5 m c))),
      ((h c).1 2).trans (((dats m 0 c).arrAt_in 2 rfl _).trans ((A_eq m c 2).trans (V_main_arg6 m c))),
      ((h c).2 main_arg7 (Pipeline.mem_restRefs_of main_arg7 (by decide) (by decide))).trans (W_main_arg7 m (dats m) c)⟩⟩) (run_main m ρ)

end Cert.ReferenceIdeal.Gen

end
-- ==== Proof.Algebraic.lean ====
/- The kernel and the reference agree on the first result, over the extended reals. -/
module

public import proofs.«01_k».proof.Defs
public import proofs.«01_k».proof.Proof.IdealAnswer
public import proofs.«01_k».proof.Proof.RefValue
public import Idealize.ShloMosaic.Lib.Pointwise

@[expose] public section

set_option maxRecDepth 16384

noncomputable section

namespace Cert.Proof

open Idealize.ShloMosaic Idealize.ShloMosaic.TcCoe Idealize.SL.Sem

/-- The facts about shapes that the mask needs. -/
theorem maskFacts : Cert.On_first_result.Facts :=
  ⟨by decide, by decide, by decide⟩

/-- A word that is constantly 0 selects nothing. -/
theorem unselected {s : Shape} (h) (i : s.Idx) : ¬ broadcastInDim s ![] h (constantI Cert.On_first_result.S_ 1 0#1) i = 1#1 := by
  intro e
  exact absurd (show (0#1 : BitVec 1) = 1#1 from e) (by decide)

/-- The first results of the kernel and of the reference are equal at every element. -/
theorem algebraic : algebraic_KernelIdeal_ReferenceIdeal_on_first_result (hKernelIdeal := Cert.KernelIdeal.Gen.facts)
    (hReferenceIdeal := Cert.ReferenceIdeal.Gen.facts) (hOn_first_result := maskFacts) := by
  letI := maskFacts
  intro m g m' g' _ hm
  refine ⟨fun c => Cert.KernelIdeal.Gen.ansArr m c, fun c => m (c.tc.loc Cert.KernelIdeal.main_v3_1), fun c => m (c.tc.loc Cert.KernelIdeal.main_v3_2), ?_, ?_⟩
  · refine (θ_run _ _ _).mono (fun r h c => ⟨fun i _ => congrFun (h.1 c) i, fun i k => absurd k (unselected maskFacts.bcast_S_S3x120x96x128 i),
      fun i k => absurd k (unselected maskFacts.bcast_S_S3x120x96 i), h.2 c⟩)
      (Cert.KernelIdeal.Gen.run_value m g)
  · refine (θ_run _ _ _).mono (fun r h c => ⟨fun i _ => (congrFun (h.1 c) i).trans ?_, fun i k => absurd k (unselected maskFacts.bcast_S_S3x120x96x128 i),
      fun i k => absurd k (unselected maskFacts.bcast_S_S3x120x96 i), h.2 c⟩)
      (Cert.ReferenceIdeal.Gen.run_value m' g')
    obtain ⟨e0, e1, e2, e3, e4, e5, e6, e7⟩ := hm c
    unfold Cert.ReferenceIdeal.Gen.refArr Cert.KernelIdeal.Gen.ansArr Cert.KernelIdeal.Gen.ans
    unfold Cert.KernelIdeal.Gen.aY Cert.KernelIdeal.Gen.aC Cert.KernelIdeal.Gen.aCD Cert.KernelIdeal.Gen.aSC Cert.KernelIdeal.Gen.aDT Cert.KernelIdeal.Gen.aAL Cert.KernelIdeal.Gen.aLV
    rw [e0, e1, e2, e3, e4, e5, e7]

end Cert.Proof

end
-- ==== Proof.lean ====
module

public import proofs.«01_k».proof.Defs
public import proofs.«01_k».proof.Proof.Frame
public import proofs.«01_k».proof.Proof.IdealFrame
public import proofs.«01_k».proof.Proof.Algebraic
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, maskFacts,
    fun m g _ => Cert.Kernel.Gen.frame m g, fun m g _ => Cert.KernelIdeal.Gen.frame m g,
    fun m g _ => Cert.ReferenceIdeal.Gen.frame m g, trivial, algebraic⟩

end Cert.Proof

end
